-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_targets_in_range [hPre_targets_in_range : Cert.Pre_targets_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_targets_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_targets_in_range [hPre_targets_in_range : Cert.Pre_targets_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_targets_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Quantise (m : (ℓ : Loc Cert.Quantise.nD Cert.Quantise.τ Cert.Quantise.sig) → Buf (Elt Bits) ℓ) : Prop :=
  True

def Pre_QuantiseIdeal (m : (ℓ : Loc Cert.QuantiseIdeal.nD Cert.QuantiseIdeal.τ Cert.QuantiseIdeal.sig) → Buf (Elt Ideal) ℓ) : Prop :=
  True

def Pre_QuantiseIdeal_rows_in_range [hPre_rows_in_range : Cert.Pre_rows_in_range.Facts] (m : (ℓ : Loc Cert.QuantiseIdeal.nD Cert.QuantiseIdeal.τ Cert.QuantiseIdeal.sig) → Buf (Elt Ideal) ℓ) : Prop :=
  ∀ c : Dev Cert.QuantiseIdeal.nD,
    (Cert.Pre_rows_in_range.fn (F := Ideal) (m ((c.tc : Thread Cert.QuantiseIdeal.nD Cert.QuantiseIdeal.τ).loc Cert.QuantiseIdeal.main_arg0))) = (fun _ => 1#1)

def Pre_QuantiseReferenceIdeal (m : (ℓ : Loc Cert.QuantiseReferenceIdeal.nD Cert.QuantiseReferenceIdeal.τ Cert.QuantiseReferenceIdeal.sig) → Buf (Elt Ideal) ℓ) : Prop :=
  True

def Pre_QuantiseReferenceIdeal_rows_in_range [hPre_rows_in_range : Cert.Pre_rows_in_range.Facts] (m : (ℓ : Loc Cert.QuantiseReferenceIdeal.nD Cert.QuantiseReferenceIdeal.τ Cert.QuantiseReferenceIdeal.sig) → Buf (Elt Ideal) ℓ) : Prop :=
  ∀ c : Dev Cert.QuantiseReferenceIdeal.nD,
    (Cert.Pre_rows_in_range.fn (F := Ideal) (m ((c.tc : Thread Cert.QuantiseReferenceIdeal.nD Cert.QuantiseReferenceIdeal.τ).loc Cert.QuantiseReferenceIdeal.main_arg0))) = (fun _ => 1#1)

def Pre_QuantiseReference (m : (ℓ : Loc Cert.QuantiseReference.nD Cert.QuantiseReference.τ Cert.QuantiseReference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_targets_in_range [hKernelIdeal : Cert.KernelIdeal.Facts] [hPre_targets_in_range : Cert.Pre_targets_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_targets_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_targets_in_range [hReferenceIdeal : Cert.ReferenceIdeal.Facts] [hPre_targets_in_range : Cert.Pre_targets_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_targets_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Quantise [hQuantise : Cert.Quantise.Facts] : Prop :=
  ∀ (m : (ℓ : Loc Cert.Quantise.nD Cert.Quantise.τ Cert.Quantise.sig) → Buf (Elt Bits) ℓ) (g : Dev Cert.Quantise.nD → PrngReg), Pre_Quantise m →
    θ_run (Cert.Quantise.defs (F := Bits)) (onTc (τ := Cert.Quantise.τ) (Cert.Quantise.main (F := Bits))) ⟨m, fun _ => 0, g⟩ (fun r => (∀ c : Dev Cert.Quantise.nD,
      r.2.mem ((c.tc : Thread Cert.Quantise.nD Cert.Quantise.τ).loc Cert.Quantise.main_arg0) = m ((c.tc : Thread Cert.Quantise.nD Cert.Quantise.τ).loc Cert.Quantise.main_arg0))
      ∧ r.2.sem = fun _ => 0)

def quiescent_QuantiseIdeal [hQuantiseIdeal : Cert.QuantiseIdeal.Facts] : Prop :=
  ∀ (m : (ℓ : Loc Cert.QuantiseIdeal.nD Cert.QuantiseIdeal.τ Cert.QuantiseIdeal.sig) → Buf (Elt Ideal) ℓ) (g : Dev Cert.QuantiseIdeal.nD → PrngReg), Pre_QuantiseIdeal m →
    θ_run (Cert.QuantiseIdeal.defs (F := Ideal)) (onTc (τ := Cert.QuantiseIdeal.τ) (Cert.QuantiseIdeal.main (F := Ideal))) ⟨m, fun _ => 0, g⟩ (fun r => (∀ c : Dev Cert.QuantiseIdeal.nD,
      r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0))
      ∧ r.2.sem = fun _ => 0)

def quiescent_QuantiseIdeal_pre_rows_in_range [hQuantiseIdeal : Cert.QuantiseIdeal.Facts] [hPre_rows_in_range : Cert.Pre_rows_in_range.Facts] : Prop :=
  ∀ (m : (ℓ : Loc Cert.QuantiseIdeal.nD Cert.QuantiseIdeal.τ Cert.QuantiseIdeal.sig) → Buf (Elt Ideal) ℓ) (g : Dev Cert.QuantiseIdeal.nD → PrngReg), Pre_QuantiseIdeal_rows_in_range m →
    θ_run (Cert.QuantiseIdeal.defs (F := Ideal)) (onTc (τ := Cert.QuantiseIdeal.τ) (Cert.QuantiseIdeal.main (F := Ideal))) ⟨m, fun _ => 0, g⟩ (fun r => (∀ c : Dev Cert.QuantiseIdeal.nD,
      r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0))
      ∧ r.2.sem = fun _ => 0)

def quiescent_QuantiseReferenceIdeal [hQuantiseReferenceIdeal : Cert.QuantiseReferenceIdeal.Facts] : Prop :=
  ∀ (m : (ℓ : Loc Cert.QuantiseReferenceIdeal.nD Cert.QuantiseReferenceIdeal.τ Cert.QuantiseReferenceIdeal.sig) → Buf (Elt Ideal) ℓ) (g : Dev Cert.QuantiseReferenceIdeal.nD → PrngReg), Pre_QuantiseReferenceIdeal m →
    θ_run (Cert.QuantiseReferenceIdeal.defs (F := Ideal)) (onTc (τ := Cert.QuantiseReferenceIdeal.τ) (Cert.QuantiseReferenceIdeal.main (F := Ideal))) ⟨m, fun _ => 0, g⟩ (fun r => (∀ c : Dev Cert.QuantiseReferenceIdeal.nD,
      r.2.mem ((c.tc : Thread Cert.QuantiseReferenceIdeal.nD Cert.QuantiseReferenceIdeal.τ).loc Cert.QuantiseReferenceIdeal.main_arg0) = m ((c.tc : Thread Cert.QuantiseReferenceIdeal.nD Cert.QuantiseReferenceIdeal.τ).loc Cert.QuantiseReferenceIdeal.main_arg0))
      ∧ r.2.sem = fun _ => 0)

def quiescent_QuantiseReferenceIdeal_pre_rows_in_range [hQuantiseReferenceIdeal : Cert.QuantiseReferenceIdeal.Facts] [hPre_rows_in_range : Cert.Pre_rows_in_range.Facts] : Prop :=
  ∀ (m : (ℓ : Loc Cert.QuantiseReferenceIdeal.nD Cert.QuantiseReferenceIdeal.τ Cert.QuantiseReferenceIdeal.sig) → Buf (Elt Ideal) ℓ) (g : Dev Cert.QuantiseReferenceIdeal.nD → PrngReg), Pre_QuantiseReferenceIdeal_rows_in_range m →
    θ_run (Cert.QuantiseReferenceIdeal.defs (F := Ideal)) (onTc (τ := Cert.QuantiseReferenceIdeal.τ) (Cert.QuantiseReferenceIdeal.main (F := Ideal))) ⟨m, fun _ => 0, g⟩ (fun r => (∀ c : Dev Cert.QuantiseReferenceIdeal.nD,
      r.2.mem ((c.tc : Thread Cert.QuantiseReferenceIdeal.nD Cert.QuantiseReferenceIdeal.τ).loc Cert.QuantiseReferenceIdeal.main_arg0) = m ((c.tc : Thread Cert.QuantiseReferenceIdeal.nD Cert.QuantiseReferenceIdeal.τ).loc Cert.QuantiseReferenceIdeal.main_arg0))
      ∧ r.2.sem = fun _ => 0)

def quiescent_QuantiseReference [hQuantiseReference : Cert.QuantiseReference.Facts] : Prop :=
  ∀ (m : (ℓ : Loc Cert.QuantiseReference.nD Cert.QuantiseReference.τ Cert.QuantiseReference.sig) → Buf (Elt Bits) ℓ) (g : Dev Cert.QuantiseReference.nD → PrngReg), Pre_QuantiseReference m →
    θ_run (Cert.QuantiseReference.defs (F := Bits)) (onTc (τ := Cert.QuantiseReference.τ) (Cert.QuantiseReference.main (F := Bits))) ⟨m, fun _ => 0, g⟩ (fun r => (∀ c : Dev Cert.QuantiseReference.nD,
      r.2.mem ((c.tc : Thread Cert.QuantiseReference.nD Cert.QuantiseReference.τ).loc Cert.QuantiseReference.main_arg0) = m ((c.tc : Thread Cert.QuantiseReference.nD Cert.QuantiseReference.τ).loc Cert.QuantiseReference.main_arg0))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)
  ∧ IdealRules.named_const.Statement Cert.KernelIdeal.κ "ln2sq" .f32 0x3EF5FDF0#32 (((Real.log 2) * (Real.log 2) : ℝ) : EReal)

def algebraic_KernelIdeal_ReferenceIdeal_pre_targets_in_range [hKernelIdeal : Cert.KernelIdeal.Facts] [hReferenceIdeal : Cert.ReferenceIdeal.Facts] [hPre_targets_in_range : Cert.Pre_targets_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_targets_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Quantise_QuantiseIdeal : Prop :=
  True

def preserves_QuantiseReference_QuantiseReferenceIdeal : Prop :=
  IdealRules.named_const.Statement Cert.QuantiseReferenceIdeal.κ "log2e" .f32 0x3FB8AA3B#32 (((Real.log 2)⁻¹ : ℝ) : EReal)

def algebraic_QuantiseIdeal_QuantiseReferenceIdeal_pre_rows_in_range [hQuantiseIdeal : Cert.QuantiseIdeal.Facts] [hQuantiseReferenceIdeal : Cert.QuantiseReferenceIdeal.Facts] [hPre_rows_in_range : Cert.Pre_rows_in_range.Facts] : Prop :=
  ∀ (m : (ℓ : Loc Cert.QuantiseIdeal.nD Cert.QuantiseIdeal.τ Cert.QuantiseIdeal.sig) → Buf (Elt Ideal) ℓ) (g : Dev Cert.QuantiseIdeal.nD → PrngReg)
    (m' : (ℓ : Loc Cert.QuantiseReferenceIdeal.nD Cert.QuantiseReferenceIdeal.τ Cert.QuantiseReferenceIdeal.sig) → Buf (Elt Ideal) ℓ) (g' : Dev Cert.QuantiseReferenceIdeal.nD → PrngReg), Pre_QuantiseIdeal_rows_in_range m →
    (∀ c : Dev Cert.QuantiseIdeal.nD,
      m' ((c.tc : Thread Cert.QuantiseReferenceIdeal.nD Cert.QuantiseReferenceIdeal.τ).loc Cert.QuantiseReferenceIdeal.main_arg0) = m ((c.tc : Thread Cert.QuantiseIdeal.nD Cert.QuantiseIdeal.τ).loc Cert.QuantiseIdeal.main_arg0)) →
    ∃ (v0 : (c : Dev Cert.QuantiseIdeal.nD) → Buf (Elt Ideal) ((c.tc : Thread Cert.QuantiseIdeal.nD Cert.QuantiseIdeal.τ).loc Cert.QuantiseIdeal.main_v2)) (v1 : (c : Dev Cert.QuantiseIdeal.nD) → Buf (Elt Ideal) ((c.tc : Thread Cert.QuantiseIdeal.nD Cert.QuantiseIdeal.τ).loc Cert.QuantiseIdeal.main_v3)),
      θ_run (Cert.QuantiseIdeal.defs (F := Ideal)) (onTc (τ := Cert.QuantiseIdeal.τ) (Cert.QuantiseIdeal.main (F := Ideal))) ⟨m, fun _ => 0, g⟩ (fun r => ∀ c : Dev Cert.QuantiseIdeal.nD,
          r.2.mem ((c.tc : Thread Cert.QuantiseIdeal.nD Cert.QuantiseIdeal.τ).loc Cert.QuantiseIdeal.main_v2) = v0 c
          ∧ r.2.mem ((c.tc : Thread Cert.QuantiseIdeal.nD Cert.QuantiseIdeal.τ).loc Cert.QuantiseIdeal.main_v3) = v1 c
          ∧ r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0))
      ∧ θ_run (Cert.QuantiseReferenceIdeal.defs (F := Ideal)) (onTc (τ := Cert.QuantiseReferenceIdeal.τ) (Cert.QuantiseReferenceIdeal.main (F := Ideal))) ⟨m', fun _ => 0, g'⟩ (fun r => ∀ c : Dev Cert.QuantiseReferenceIdeal.nD,
          r.2.mem ((c.tc : Thread Cert.QuantiseReferenceIdeal.nD Cert.QuantiseReferenceIdeal.τ).loc Cert.QuantiseReferenceIdeal.main_v0_0) = v0 c
          ∧ r.2.mem ((c.tc : Thread Cert.QuantiseReferenceIdeal.nD Cert.QuantiseReferenceIdeal.τ).loc Cert.QuantiseReferenceIdeal.main_v0_1) = v1 c
          ∧ r.2.mem ((c.tc : Thread Cert.QuantiseReferenceIdeal.nD Cert.QuantiseReferenceIdeal.τ).loc Cert.QuantiseReferenceIdeal.main_arg0) = m' ((c.tc : Thread Cert.QuantiseReferenceIdeal.nD Cert.QuantiseReferenceIdeal.τ).loc Cert.QuantiseReferenceIdeal.main_arg0))

def Claim : Prop :=
  ∃ (hKernel : Cert.Kernel.Facts) (hKernelIdeal : Cert.KernelIdeal.Facts) (hReferenceIdeal : Cert.ReferenceIdeal.Facts) (hQuantise : Cert.Quantise.Facts) (hQuantiseIdeal : Cert.QuantiseIdeal.Facts) (hQuantiseReferenceIdeal : Cert.QuantiseReferenceIdeal.Facts) (hQuantiseReference : Cert.QuantiseReference.Facts) (hPre_targets_in_range : Cert.Pre_targets_in_range.Facts) (hPre_rows_in_range : Cert.Pre_rows_in_range.Facts),
    quiescent_Kernel (hKernel := hKernel)
    ∧ quiescent_KernelIdeal (hKernelIdeal := hKernelIdeal)
    ∧ quiescent_KernelIdeal_pre_targets_in_range (hKernelIdeal := hKernelIdeal) (hPre_targets_in_range := hPre_targets_in_range)
    ∧ quiescent_ReferenceIdeal (hReferenceIdeal := hReferenceIdeal)
    ∧ quiescent_ReferenceIdeal_pre_targets_in_range (hReferenceIdeal := hReferenceIdeal) (hPre_targets_in_range := hPre_targets_in_range)
    ∧ quiescent_Quantise (hQuantise := hQuantise)
    ∧ quiescent_QuantiseIdeal (hQuantiseIdeal := hQuantiseIdeal)
    ∧ quiescent_QuantiseIdeal_pre_rows_in_range (hQuantiseIdeal := hQuantiseIdeal) (hPre_rows_in_range := hPre_rows_in_range)
    ∧ quiescent_QuantiseReferenceIdeal (hQuantiseReferenceIdeal := hQuantiseReferenceIdeal)
    ∧ quiescent_QuantiseReferenceIdeal_pre_rows_in_range (hQuantiseReferenceIdeal := hQuantiseReferenceIdeal) (hPre_rows_in_range := hPre_rows_in_range)
    ∧ quiescent_QuantiseReference (hQuantiseReference := hQuantiseReference)
    ∧ preserves_Kernel_KernelIdeal
    ∧ algebraic_KernelIdeal_ReferenceIdeal_pre_targets_in_range (hKernelIdeal := hKernelIdeal) (hReferenceIdeal := hReferenceIdeal) (hPre_targets_in_range := hPre_targets_in_range)
    ∧ preserves_Quantise_QuantiseIdeal
    ∧ preserves_QuantiseReference_QuantiseReferenceIdeal
    ∧ algebraic_QuantiseIdeal_QuantiseReferenceIdeal_pre_rows_in_range (hQuantiseIdeal := hQuantiseIdeal) (hQuantiseReferenceIdeal := hQuantiseReferenceIdeal) (hPre_rows_in_range := hPre_rows_in_range)
-- ==== Pre_rows_in_range.lean ====
abbrev S2x1280x16384 : Shape := ⟨3, ![2, 1280, 16384]⟩
abbrev S_ : Shape := ⟨0, ![]⟩
abbrev S2x1280 : Shape := ⟨2, ![2, 1280]⟩

class Facts : Prop where
  bitsLt_bf16_f32 : FTy.bits .bf16 < FTy.bits .f32
  reducesTo_S2x1280x16384_S2x1280_d2 : S2x1280x16384.ReducesTo [2] S2x1280
  h_S_ : 0 < S_.numel
  bcast_S_S2x1280 : S_.BroadcastsInDim S2x1280 (![] : Fin 0 → Fin S2x1280.rank)

variable [Facts]

def fn {F : FTy → Type} [FloatOps F] (main_arg0 : FVec F S2x1280x16384 .bf16) : IVec S2x1280 1 :=
  let main_v0 : FVec F S2x1280x16384 .f32 := (extf .f32 · bitsLt_bf16_f32) main_arg0
  let main_v1 : FVec F S2x1280x16384 .f32 := Host.absf main_v0
  let main_cst : FVec F S_ .f32 := constant S_ .f32 0xFF800000#32
  let main_v2 : FVec F S2x1280 .f32 := (fun x v => Host.reduce FloatOps.maximumf x v reducesTo_S2x1280x16384_S2x1280_d2 h_S_) main_v1 main_cst
  let main_cst_0 : FVec F S_ .f32 := constant S_ .f32 0x00000000#32
  let main_v3 : FVec F S2x1280 .f32 := broadcastInDim S2x1280 ![] bcast_S_S2x1280 main_cst_0
  let main_v4 : IVec S2x1280 1 := cmpf .oeq main_v2 main_v3
  let main_cst_1 : FVec F S_ .f32 := constant S_ .f32 0x04600000#32
  let main_v5 : FVec F S2x1280 .f32 := broadcastInDim S2x1280 ![] bcast_S_S2x1280 main_cst_1
  let main_v6 : IVec S2x1280 1 := cmpf .oge main_v2 main_v5
  let main_cst_2 : FVec F S_ .f32 := constant S_ .f32 0x7F7F0000#32
  let main_v7 : FVec F S2x1280 .f32 := broadcastInDim S2x1280 ![] bcast_S_S2x1280 main_cst_2
  let main_v8 : IVec S2x1280 1 := cmpf .ole main_v2 main_v7
  let main_v9 : IVec S2x1280 1 := andi main_v6 main_v8
  let main_v10 : IVec S2x1280 1 := ori main_v4 main_v9
  main_v10
-- ==== Pre_targets_in_range.lean ====
abbrev S2560x16384 : Shape := ⟨2, ![2560, 16384]⟩
abbrev S16000x16384 : Shape := ⟨2, ![16000, 16384]⟩
abbrev S16000 : Shape := ⟨1, ![16000]⟩
abbrev S2560x1 : Shape := ⟨2, ![2560, 1]⟩
abbrev S2x1280x7 : Shape := ⟨3, ![2, 1280, 7]⟩
abbrev S_ : Shape := ⟨0, ![]⟩

class Facts : Prop where
  bcast_S_S2x1280x7 : S_.BroadcastsInDim S2x1280x7 (![] : Fin 0 → Fin S2x1280x7.rank)

variable [Facts]

def fn {F : FTy → Type} [FloatOps F] (main_arg0 : FVec F S2560x16384 .fp8e4m3) (main_arg1 : FVec F S16000x16384 .fp8e4m3) (main_arg2 : FVec F S16000 .f32) (main_arg3 : FVec F S2560x1 .f32) (main_arg4 : IVec S2x1280x7 32) : IVec S2x1280x7 1 :=
  let main_c : IVec S_ 32 := constantI S_ 32 0#32
  let main_v0 : IVec S2x1280x7 32 := broadcastInDim S2x1280x7 ![] bcast_S_S2x1280x7 main_c
  let main_v1 : IVec S2x1280x7 1 := cmpi .sge main_arg4 main_v0
  let main_c_0 : IVec S_ 32 := constantI S_ 32 16000#32
  let main_v2 : IVec S2x1280x7 32 := broadcastInDim S2x1280x7 ![] bcast_S_S2x1280x7 main_c_0
  let main_v3 : IVec S2x1280x7 1 := cmpi .slt main_arg4 main_v2
  let main_v4 : IVec S2x1280x7 1 := andi main_v1 main_v3
  main_v4
-- ==== Kernel.lean ====
abbrev S2560x16384 : Shape := ⟨2, ![2560, 16384]⟩
abbrev S16000x16384 : Shape := ⟨2, ![16000, 16384]⟩
abbrev S16000 : Shape := ⟨1, ![16000]⟩
abbrev S2560x1 : Shape := ⟨2, ![2560, 1]⟩
abbrev S2x1280x7 : Shape := ⟨3, ![2, 1280, 7]⟩
abbrev S2560x7 : Shape := ⟨2, ![2560, 7]⟩
abbrev S7x2560 : Shape := ⟨2, ![7, 2560]⟩
abbrev S_ : Shape := ⟨0, ![]⟩
abbrev S8x2560 : Shape := ⟨2, ![8, 2560]⟩
abbrev S16000x1 : Shape := ⟨2, ![16000, 1]⟩
abbrev S1x2560 : Shape := ⟨2, ![1, 2560]⟩
abbrev S512x16384 : Shape := ⟨2, ![512, 16384]⟩
abbrev S640x16384 : Shape := ⟨2, ![640, 16384]⟩
abbrev S640x1 : Shape := ⟨2, ![640, 1]⟩
abbrev S1x512 : Shape := ⟨2, ![1, 512]⟩
abbrev S8x512 : Shape := ⟨2, ![8, 512]⟩
abbrev S640x512 : Shape := ⟨2, ![640, 512]⟩
abbrev S512 : Shape := ⟨1, ![512]⟩
abbrev S8x512x1 : Shape := ⟨3, ![8, 512, 1]⟩
abbrev S2x1280 : Shape := ⟨2, ![2, 1280]⟩

abbrev nBuf : Space → Nat
  | .hbm => 20
  | .vmem => 21
  | .smem => 0
  | _ => 0

abbrev bufTy : (tb : Table) → Fin (tcTables nBuf tb) → BufTy
  | .hbm, ⟨0, _⟩ => ⟨S2560x16384, .fp8e4m3⟩
  | .hbm, ⟨1, _⟩ => ⟨S16000x16384, .fp8e4m3⟩
  | .hbm, ⟨2, _⟩ => ⟨S16000, .f32⟩
  | .hbm, ⟨3, _⟩ => ⟨S2560x1, .f32⟩
  | .hbm, ⟨4, _⟩ => ⟨S2x1280x7, .i32⟩
  | .hbm, ⟨5, _⟩ => ⟨S2560x7, .i32⟩
  | .hbm, ⟨6, _⟩ => ⟨S7x2560, .i32⟩
  | .hbm, ⟨7, _⟩ => ⟨S_, .i32⟩
  | .hbm, ⟨8, _⟩ => ⟨S_, .i32⟩
  | .hbm, ⟨9, _⟩ => ⟨S8x2560, .i32⟩
  | .hbm, ⟨10, _⟩ => ⟨S16000x1, .f32⟩
  | .hbm, ⟨11, _⟩ => ⟨S1x2560, .f32⟩
  | .hbm, ⟨12, _⟩ => ⟨S1x2560, .f32⟩
  | .hbm, ⟨13, _⟩ => ⟨S1x2560, .f32⟩
  | .hbm, ⟨14, _⟩ => ⟨S8x2560, .f32⟩
  | .hbm, ⟨15, _⟩ => ⟨S2x1280, .f32⟩
  | .hbm, ⟨16, _⟩ => ⟨S2x1280, .f32⟩
  | .hbm, ⟨17, _⟩ => ⟨S7x2560, .f32⟩
  | .hbm, ⟨18, _⟩ => ⟨S2560x7, .f32⟩
  | .hbm, ⟨19, _⟩ => ⟨S2x1280x7, .f32⟩
  | .local _ .vmem, ⟨0, _⟩ => ⟨S512x16384, .fp8e4m3⟩
  | .local _ .vmem, ⟨1, _⟩ => ⟨S512x16384, .fp8e4m3⟩
  | .local _ .vmem, ⟨2, _⟩ => ⟨S640x16384, .fp8e4m3⟩
  | .local _ .vmem, ⟨3, _⟩ => ⟨S640x16384, .fp8e4m3⟩
  | .local _ .vmem, ⟨4, _⟩ => ⟨S640x1, .f32⟩
  | .local _ .vmem, ⟨5, _⟩ => ⟨S640x1, .f32⟩
  | .local _ .vmem, ⟨6, _⟩ => ⟨S1x512, .f32⟩
  | .local _ .vmem, ⟨7, _⟩ => ⟨S1x512, .f32⟩
  | .local _ .vmem, ⟨8, _⟩ => ⟨S8x512, .i32⟩
  | .local _ .vmem, ⟨9, _⟩ => ⟨S8x512, .i32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S8x512, .f32⟩
  | .local _ .vmem, ⟨15, _⟩ => ⟨S8x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S8x512, .f32⟩
  | _, _ => ⟨S2560x16384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![5, 25], ![false, false]⟩

def k0_cond2 (i : grid0.Coords) : BitVec 1 :=
  let arg1 : BitVec 32 := BitVec.ofNat 32 (i 1).val
  let c24_i32_280 : BitVec 32 := 24#32
  let v1197 : BitVec 1 := Scalar.cmpi .eq arg1 c24_i32_280
  let v1198 : BitVec 32 := Scalar.extui v1197
  let c0_i32_281 : BitVec 32 := 0#32
  let v1199 : BitVec 1 := Scalar.cmpi .ne v1198 c0_i32_281
  v1199

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x16384 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S640x16384 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S640x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KernelIdeal.lean ====
variable {F : FTy → Type} [FloatOps F] [Named F]
def κ : String → Option EReal := fun
  | "ln2" => some ((Real.log 2 : ℝ) : EReal)
  | "ln2sq" => some (((Real.log 2) * (Real.log 2) : ℝ) : EReal)
  | "log2e" => some (((Real.log 2)⁻¹ : ℝ) : EReal)
  | _ => none
-- ==== ReferenceIdeal.lean ====
abbrev S2560x16384 : Shape := ⟨2, ![2560, 16384]⟩
abbrev S16000x16384 : Shape := ⟨2, ![16000, 16384]⟩
abbrev S16000 : Shape := ⟨1, ![16000]⟩
abbrev S2560x1 : Shape := ⟨2, ![2560, 1]⟩
abbrev S2x1280x7 : Shape := ⟨3, ![2, 1280, 7]⟩
abbrev S2560x16000 : Shape := ⟨2, ![2560, 16000]⟩
abbrev S2x1280x16000 : Shape := ⟨3, ![2, 1280, 16000]⟩
abbrev S2x1280x1 : Shape := ⟨3, ![2, 1280, 1]⟩
abbrev S1x1x16000 : Shape := ⟨3, ![1, 1, 16000]⟩
abbrev S_ : Shape := ⟨0, ![]⟩
abbrev S2x1280 : Shape := ⟨2, ![2, 1280]⟩
abbrev S2x1280x7x1 : Shape := ⟨4, ![2, 1280, 7, 1]⟩
abbrev S1 : Shape := ⟨1, ![1]⟩
abbrev S1x1x1x1 : Shape := ⟨4, ![1, 1, 1, 1]⟩

abbrev nBuf : Space → Nat
  | .hbm => 76
  | .vmem => 3
  | .smem => 0
  | _ => 0

abbrev bufTy : (tb : Table) → Fin (tcTables nBuf tb) → BufTy
  | .hbm, ⟨0, _⟩ => ⟨S2560x16384, .fp8e4m3⟩
  | .hbm, ⟨1, _⟩ => ⟨S16000x16384, .fp8e4m3⟩
  | .hbm, ⟨2, _⟩ => ⟨S16000, .f32⟩
  | .hbm, ⟨3, _⟩ => ⟨S2560x1, .f32⟩
  | .hbm, ⟨4, _⟩ => ⟨S2x1280x7, .i32⟩
  | .hbm, ⟨5, _⟩ => ⟨S2560x16000, .f32⟩
  | .hbm, ⟨6, _⟩ => ⟨S2x1280x16000, .f32⟩
  | .hbm, ⟨7, _⟩ => ⟨S2x1280x1, .f32⟩
  | .hbm, ⟨8, _⟩ => ⟨S2x1280x16000, .f32⟩
  | .hbm, ⟨9, _⟩ => ⟨S2x1280x16000, .f32⟩
  | .hbm, ⟨10, _⟩ => ⟨S1x1x16000, .f32⟩
  | .hbm, ⟨11, _⟩ => ⟨S2x1280x16000, .f32⟩
  | .hbm, ⟨12, _⟩ => ⟨S2x1280x16000, .f32⟩
  | .hbm, ⟨13, _⟩ => ⟨S_, .f32⟩
  | .hbm, ⟨14, _⟩ => ⟨S2x1280, .f32⟩
  | .hbm, ⟨15, _⟩ => ⟨S_, .f32⟩
  | .hbm, ⟨16, _⟩ => ⟨S2x1280, .f32⟩
  | .hbm, ⟨17, _⟩ => ⟨S2x1280, .f32⟩
  | .hbm, ⟨18, _⟩ => ⟨S2x1280x1, .f32⟩
  | .hbm, ⟨19, _⟩ => ⟨S2x1280x16000, .f32⟩
  | .hbm, ⟨20, _⟩ => ⟨S2x1280x16000, .f32⟩
  | .hbm, ⟨21, _⟩ => ⟨S2x1280x16000, .f32⟩
  | .hbm, ⟨22, _⟩ => ⟨S_, .f32⟩
  | .hbm, ⟨23, _⟩ => ⟨S2x1280, .f32⟩
  | .hbm, ⟨24, _⟩ => ⟨S2x1280x1, .f32⟩
  | .hbm, ⟨25, _⟩ => ⟨S2x1280x1, .f32⟩
  | .hbm, ⟨26, _⟩ => ⟨S2x1280x16000, .f32⟩
  | .hbm, ⟨27, _⟩ => ⟨S2x1280x16000, .f32⟩
  | .hbm, ⟨28, _⟩ => ⟨S_, .f32⟩
  | .hbm, ⟨29, _⟩ => ⟨S2x1280, .f32⟩
  | .hbm, ⟨30, _⟩ => ⟨S_, .f32⟩
  | .hbm, ⟨31, _⟩ => ⟨S2x1280, .f32⟩
  | .hbm, ⟨32, _⟩ => ⟨S2x1280, .f32⟩
  | .hbm, ⟨33, _⟩ => ⟨S2x1280x1, .f32⟩
  | .hbm, ⟨34, _⟩ => ⟨S2x1280x16000, .f32⟩
  | .hbm, ⟨35, _⟩ => ⟨S2x1280x16000, .f32⟩
  | .hbm, ⟨36, _⟩ => ⟨S2x1280x16000, .f32⟩
  | .hbm, ⟨37, _⟩ => ⟨S_, .f32⟩
  | .hbm, ⟨38, _⟩ => ⟨S2x1280, .f32⟩
  | .hbm, ⟨39, _⟩ => ⟨S2x1280x1, .f32⟩
  | .hbm, ⟨40, _⟩ => ⟨S2x1280x16000, .f32⟩
  | .hbm, ⟨41, _⟩ => ⟨S2x1280x16000, .f32⟩
  | .hbm, ⟨42, _⟩ => ⟨S2x1280x16000, .f32⟩
  | .hbm, ⟨43, _⟩ => ⟨S_, .f32⟩
  | .hbm, ⟨44, _⟩ => ⟨S2x1280, .f32⟩
  | .hbm, ⟨45, _⟩ => ⟨S2x1280, .f32⟩
  | .hbm, ⟨46, _⟩ => ⟨S2x1280x16000, .f32⟩
  | .hbm, ⟨47, _⟩ => ⟨S2x1280x1, .f32⟩
  | .hbm, ⟨48, _⟩ => ⟨S2x1280x16000, .f32⟩
  | .hbm, ⟨49, _⟩ => ⟨S2x1280x16000, .f32⟩
  | .hbm, ⟨50, _⟩ => ⟨S2x1280x16000, .f32⟩
  | .hbm, ⟨51, _⟩ => ⟨S2x1280x16000, .f32⟩
  | .hbm, ⟨52, _⟩ => ⟨S_, .f32⟩
  | .hbm, ⟨53, _⟩ => ⟨S2x1280, .f32⟩
  | .hbm, ⟨54, _⟩ => ⟨S_, .i32⟩
  | .hbm, ⟨55, _⟩ => ⟨S2x1280x7, .i32⟩
  | .hbm, ⟨56, _⟩ => ⟨S2x1280x7, .i1⟩
  | .hbm, ⟨57, _⟩ => ⟨S_, .i32⟩
  | .hbm, ⟨58, _⟩ => ⟨S2x1280x7, .i32⟩
  | .hbm, ⟨59, _⟩ => ⟨S2x1280x7, .i32⟩
  | .hbm, ⟨60, _⟩ => ⟨S2x1280x7, .i32⟩
  | .hbm, ⟨61, _⟩ => ⟨S2x1280x7x1, .i32⟩
  | .hbm, ⟨62, _⟩ => ⟨S1, .i32⟩
  | .hbm, ⟨63, _⟩ => ⟨S_, .i32⟩
  | .hbm, ⟨64, _⟩ => ⟨S2x1280x7x1, .i32⟩
  | .hbm, ⟨65, _⟩ => ⟨S2x1280x7x1, .i1⟩
  | .hbm, ⟨66, _⟩ => ⟨S1x1x1x1, .i32⟩
  | .hbm, ⟨67, _⟩ => ⟨S2x1280x7x1, .i32⟩
  | .hbm, ⟨68, _⟩ => ⟨S2x1280x7x1, .i1⟩
  | .hbm, ⟨69, _⟩ => ⟨S2x1280x7x1, .i1⟩
  | .hbm, ⟨70, _⟩ => ⟨S_, .i1⟩
  | .hbm, ⟨71, _⟩ => ⟨S2x1280x7, .i1⟩
  | .hbm, ⟨72, _⟩ => ⟨S2x1280x7, .f32⟩
  | .hbm, ⟨73, _⟩ => ⟨S_, .f32⟩
  | .hbm, ⟨74, _⟩ => ⟨S2x1280x7, .f32⟩
  | .hbm, ⟨75, _⟩ => ⟨S2x1280x7, .f32⟩
  | .local _ .vmem, ⟨0, _⟩ => ⟨S2560x16384, .fp8e4m3⟩
  | .local _ .vmem, ⟨1, _⟩ => ⟨S16000x16384, .fp8e4m3⟩
  | .local _ .vmem, ⟨2, _⟩ => ⟨S2560x16000, .f32⟩
  | _, _ => ⟨S2560x16384, .fp8e4m3⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_cst : Ref sig .tc := ⟨.hbm, 13, rfl⟩
abbrev main_call0_v0 : Ref sig .tc := ⟨.hbm, 14, rfl⟩
abbrev main_call0_cst_0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_cst_1 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_v8 : Ref sig .tc := ⟨.hbm, 27, rfl⟩
abbrev main_cst : Ref sig .tc := ⟨.hbm, 28, rfl⟩
abbrev main_v9 : Ref sig .tc := ⟨.hbm, 29, rfl⟩
abbrev main_cst_0 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_1 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_2 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_3 : Ref sig .tc := ⟨.hbm, 52, rfl⟩
abbrev main_v29 : Ref sig .tc := ⟨.hbm, 53, rfl⟩
abbrev main_call1_c : Ref sig .tc := ⟨.hbm, 54, rfl⟩
abbrev main_call1_v0 : Ref sig .tc := ⟨.hbm, 55, rfl⟩
abbrev main_call1_v1 : Ref sig .tc := ⟨.hbm, 56, rfl⟩
abbrev main_call1_c_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_c_1 : Ref sig .tc := ⟨.hbm, 62, rfl⟩
abbrev main_call1_c_2 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_c_3 : Ref sig .tc := ⟨.hbm, 70, rfl⟩
abbrev main_call1_v12 : Ref sig .tc := ⟨.hbm, 71, rfl⟩
abbrev main_call1_v13 : Ref sig .tc := ⟨.hbm, 72, rfl⟩
abbrev main_call1_cst : Ref sig .tc := ⟨.hbm, 73, rfl⟩
abbrev main_call1_v14 : Ref sig .tc := ⟨.hbm, 74, rfl⟩
abbrev main_v30 : Ref sig .tc := ⟨.hbm, 75, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2560x16384 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16000x16384 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2560x16000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Quantise.lean ====
abbrev S2x1280x16384 : Shape := ⟨3, ![2, 1280, 16384]⟩
abbrev S2560x16384 : Shape := ⟨2, ![2560, 16384]⟩
abbrev S2560x1 : Shape := ⟨2, ![2560, 1]⟩
abbrev S128x16384 : Shape := ⟨2, ![128, 16384]⟩
abbrev S128x1 : Shape := ⟨2, ![128, 1]⟩
abbrev S128 : Shape := ⟨1, ![128]⟩
abbrev S128x256 : Shape := ⟨2, ![128, 256]⟩
abbrev S2x1280 : Shape := ⟨2, ![2, 1280]⟩

abbrev nBuf : Space → Nat
  | .hbm => 6
  | .vmem => 6
  | .smem => 0
  | _ => 0

abbrev bufTy : (tb : Table) → Fin (tcTables nBuf tb) → BufTy
  | .hbm, ⟨0, _⟩ => ⟨S2x1280x16384, .bf16⟩
  | .hbm, ⟨1, _⟩ => ⟨S2560x16384, .bf16⟩
  | .hbm, ⟨2, _⟩ => ⟨S2560x16384, .fp8e4m3⟩
  | .hbm, ⟨3, _⟩ => ⟨S2560x1, .f32⟩
  | .hbm, ⟨4, _⟩ => ⟨S2x1280x16384, .fp8e4m3⟩
  | .hbm, ⟨5, _⟩ => ⟨S2x1280, .f32⟩
  | .local _ .vmem, ⟨0, _⟩ => ⟨S128x16384, .bf16⟩
  | .local _ .vmem, ⟨1, _⟩ => ⟨S128x16384, .bf16⟩
  | .local _ .vmem, ⟨2, _⟩ => ⟨S128x16384, .fp8e4m3⟩
  | .local _ .vmem, ⟨3, _⟩ => ⟨S128x16384, .fp8e4m3⟩
  | .local _ .vmem, ⟨4, _⟩ => ⟨S128x1, .f32⟩
  | .local _ .vmem, ⟨5, _⟩ => ⟨S128x1, .f32⟩
  | _, _ => ⟨S2x1280x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x16384 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QuantiseReferenceIdeal.lean ====
variable {F : FTy → Type} [FloatOps F] [Named F]
def κ : String → Option EReal := fun
  | "log2e" => some (((Real.log 2)⁻¹ : ℝ) : EReal)
  | _ => none
-- ==== QuantiseReference.lean ====
abbrev S2x1280x16384 : Shape := ⟨3, ![2, 1280, 16384]⟩
abbrev S2x1280 : Shape := ⟨2, ![2, 1280]⟩
abbrev S2x1280x1 : Shape := ⟨3, ![2, 1280, 1]⟩

abbrev nBuf : Space → Nat
  | .hbm => 3
  | .vmem => 3
  | .smem => 0
  | _ => 0

abbrev bufTy : (tb : Table) → Fin (tcTables nBuf tb) → BufTy
  | .hbm, ⟨0, _⟩ => ⟨S2x1280x16384, .bf16⟩
  | .hbm, ⟨1, _⟩ => ⟨S2x1280x16384, .fp8e4m3⟩
  | .hbm, ⟨2, _⟩ => ⟨S2x1280, .f32⟩
  | .local _ .vmem, ⟨0, _⟩ => ⟨S2x1280x16384, .bf16⟩
  | .local _ .vmem, ⟨1, _⟩ => ⟨S2x1280x16384, .fp8e4m3⟩
  | .local _ .vmem, ⟨2, _⟩ => ⟨S2x1280, .f32⟩
  | _, _ => ⟨S2x1280x16384, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2x1280x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1280x16384 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Consts.lean ====
/- The float constants the programs spell, as the extended reals their patterns denote. -/
module

public import Idealize.ShloMosaic.PureOps.Ideal

@[expose] public section

noncomputable section

namespace Cert.Consts

open Idealize.ShloMosaic

/-- The pattern of minus infinity. -/
theorem negInf : Ideal.ofBits .f32 0xFF800000#32 = ⊥ := by
  simp [Ideal.ofBits, Ideal.ieee]

/-- The pattern of two. -/
theorem two : Ideal.ofBits .f32 0x40000000#32 = ((2 : ℝ) : EReal) := by
  simp [Ideal.ofBits, Ideal.ieee, -EReal.coe_mul]; norm_num

end Cert.Consts

end
-- ==== Proof.RefHost.lean ====
/- The host operations after the reference's region, as functions of what they read. -/
module

public import proofs.«01_k».proof.Defs
public import proofs.«01_k».proof.Proof.Gen.ReferenceIdeal.Frame

@[expose] public section

set_option maxRecDepth 16384

noncomputable section

namespace Cert.Ref

open Cert.ReferenceIdeal Cert.ReferenceIdeal.Gen Idealize.ShloMosaic Idealize.ShloMosaic.TcCoe Idealize.SL.Sem

section
variable {F : FTy → Type} [FloatOps F]

/-- The scaled logits: the products, times the tokens' scales, times the words' scales. -/
def zArr (A : FVec F S2560x16000 .f32) (a2 : FVec F S16000 .f32) (a3 : FVec F S2560x1 .f32) : FVec F S2x1280x16000 .f32 :=
  mulf (mulf (shapeCast S2x1280x16000 A shapeCasts_S2560x16000_S2x1280x16000)
      (broadcastInDim S2x1280x16000 ![0, 1, 2] bcast_S2x1280x1_S2x1280x16000_0_1_2 (shapeCast S2x1280x1 a3 shapeCasts_S2560x1_S2x1280x1)))
    (broadcastInDim S2x1280x16000 ![0, 1, 2] bcast_S1x1x16000_S2x1280x16000_0_1_2 (broadcastInDim S1x1x16000 ![2] bcast_S16000_S1x1x16000_2 a2))

/-- One number per token, repeated over the vocabulary. -/
def spread (A : FVec F S2x1280 .f32) : FVec F S2x1280x16000 .f32 :=
  broadcastInDim S2x1280x16000 ![0, 1, 2] bcast_S2x1280x1_S2x1280x16000_0_1_2 (broadcastInDim S2x1280x1 ![0, 1] bcast_S2x1280_S2x1280x1_0_1 A)

/-- The sum over the vocabulary. -/
def total (Z : FVec F S2x1280x16000 .f32) : FVec F S2x1280 .f32 :=
  Host.reduceAdd Z (constant S_ .f32 0x00000000#32) reducesTo_S2x1280x16000_S2x1280_d2 h_S_

/-- The greatest logit of a token. -/
def rowMax (Z : FVec F S2x1280x16000 .f32) : FVec F S2x1280 .f32 :=
  maximumf (broadcastInDim S2x1280 ![] bcast_S_S2x1280 (constant S_ .f32 0xFF800000#32))
    (Host.reduce FloatOps.maximumf Z (constant S_ .f32 0xFF800000#32) reducesTo_S2x1280x16000_S2x1280_d2 h_S_)

/-- The logits less the greatest. -/
def cen (Z : FVec F S2x1280x16000 .f32) : FVec F S2x1280x16000 .f32 := subf Z (spread (rowMax Z))

/-- The log-softmax. -/
def lsm (Z : FVec F S2x1280x16000 .f32) : FVec F S2x1280x16000 .f32 :=
  subf (cen Z) (broadcastInDim S2x1280x16000 ![0, 1, 2] bcast_S2x1280x1_S2x1280x16000_0_1_2
    (Host.log (broadcastInDim S2x1280x1 ![0, 1] bcast_S2x1280_S2x1280x1_0_1 (total (Host.exp (cen Z))))))

/-- The softmax. -/
def smx (Z : FVec F S2x1280x16000 .f32) : FVec F S2x1280x16000 .f32 :=
  Host.divf (Host.exp (cen Z)) (spread (total (Host.exp (cen Z))))

/-- The entropy, from the logits and their log-softmax. -/
def ent (Z L : FVec F S2x1280x16000 .f32) : FVec F S2x1280 .f32 := Host.negf (total (mulf (smx Z) L))

/-- The varentropy, from the logits and their log-softmax. -/
def vent (Z L : FVec F S2x1280x16000 .f32) : FVec F S2x1280 .f32 :=
  total (mulf (Host.exp L) (mulf (addf L (spread (ent Z L))) (addf L (spread (ent Z L)))))

/-- The target words, those below zero counted from the end. -/
def wrapT (T : IVec S2x1280x7 32) : IVec S2x1280x7x1 32 :=
  shapeCast S2x1280x7x1 (select (cmpi .slt T (broadcastInDim S2x1280x7 ![] bcast_S_S2x1280x7 (constantI S_ 32 0#32)))
    (addi T (broadcastInDim S2x1280x7 ![] bcast_S_S2x1280x7 (constantI S_ 32 16000#32))) T) shapeCasts_S2x1280x7_S2x1280x7x1

/-- Whether a wrapped target word is one of the vocabulary. -/
def okT (X : IVec S2x1280x7x1 32) : IVec S2x1280x7 1 :=
  Host.reduce IntOp.andi (andi (cmpi .sge X (broadcastInDim S2x1280x7x1 ![] bcast_S_S2x1280x7x1 (constantI S_ 32 0#32)))
    (cmpi .sle X (broadcastInDim S2x1280x7x1 ![0, 1, 2, 3] bcast_S1x1x1x1_S2x1280x7x1_0_1_2_3 (broadcastInDim S1x1x1x1 ![3] bcast_S1_S1x1x1x1_3 (constantI S1 32 15999#32)))))
    (constantI S_ 1 1#1) reducesTo_S2x1280x7x1_S2x1280x7_d3 h_S_

/-- The log probabilities of the target words. -/
def takeT (L : FVec F S2x1280x16000 .f32) (T : IVec S2x1280x7 32) : FVec F S2x1280x7 .f32 :=
  select (okT (wrapT T)) (Host.gather gather_S2x1280x16000_S2x1280x7x1_S2x1280x7_n_2_01_01_2_3_111 L (wrapT T))
    (broadcastInDim S2x1280x7 ![] bcast_S_S2x1280x7 (constant S_ .f32 0x7FC00000#32))

end

variable (W : Valuation τ sig (Elt Ideal))

theorem stageA : StableHlo.after (hostOps1 (F := Ideal)) W (Proc.devRef .tc main_v7)
    = zArr (F := Ideal) (W (Proc.devRef .tc main_v0)) (W (Proc.devRef .tc main_arg2)) (W (Proc.devRef .tc main_arg3)) := by
  after_results
  rfl
theorem stageA4 : StableHlo.after (hostOps1 (F := Ideal)) W (Proc.devRef .tc main_arg4) = W (Proc.devRef .tc main_arg4) := by
  after_results

theorem stageB : StableHlo.after (hostOps1_1 (F := Ideal)) W (Proc.devRef .tc main_v8) = lsm (F := Ideal) (W (Proc.devRef .tc main_v7)) := by
  after_results
  simp only [StableHlo.TRef.ofBuf_toBuf]
  rfl
theorem stageB7 : StableHlo.after (hostOps1_1 (F := Ideal)) W (Proc.devRef .tc main_v7) = W (Proc.devRef .tc main_v7) := by
  after_results
theorem stageB4 : StableHlo.after (hostOps1_1 (F := Ideal)) W (Proc.devRef .tc main_arg4) = W (Proc.devRef .tc main_arg4) := by
  after_results

theorem stageC : StableHlo.after (hostOps1_2 (F := Ideal)) W (Proc.devRef .tc main_v22)
    = ent (F := Ideal) (W (Proc.devRef .tc main_v7)) (W (Proc.devRef .tc main_v8)) := by
  after_results
  rfl
theorem stageC29 : StableHlo.after (hostOps1_2 (F := Ideal)) W (Proc.devRef .tc main_v29)
    = vent (F := Ideal) (W (Proc.devRef .tc main_v7)) (W (Proc.devRef .tc main_v8)) := by
  after_results
  rfl
theorem stageC8 : StableHlo.after (hostOps1_2 (F := Ideal)) W (Proc.devRef .tc main_v8) = W (Proc.devRef .tc main_v8) := by
  after_results
theorem stageC4 : StableHlo.after (hostOps1_2 (F := Ideal)) W (Proc.devRef .tc main_arg4) = W (Proc.devRef .tc main_arg4) := by
  after_results

theorem stageD : StableHlo.after (hostOps1_3 (F := Ideal)) W (Proc.devRef .tc main_v30)
    = takeT (F := Ideal) (W (Proc.devRef .tc main_v8)) (W (Proc.devRef .tc main_arg4)) := by
  after_results
  simp only [StableHlo.TRef.ofBuf_toBuf]
  have e5 : ∀ (a b c) (v : (⟨S2x1280x7x1, .i32⟩ : BufTy).Contents (Elt Ideal)),
      (StableHlo.TRef.of main_call1_v5 a b c : StableHlo.TRef sig ⟨S2x1280x7x1, .i32⟩).ofBuf v = v := fun _ _ _ _ => rfl
  have e4 : ∀ (a b c) (v : (⟨S2x1280x7, .i32⟩ : BufTy).Contents (Elt Ideal)),
      (StableHlo.TRef.of main_call1_v4 a b c : StableHlo.TRef sig ⟨S2x1280x7, .i32⟩).toBuf v = v := fun _ _ _ _ => rfl
  have ea : ∀ (a b c) (v : (⟨S2x1280x7, .i32⟩ : BufTy).Contents (Elt Ideal)),
      (StableHlo.TRef.of main_arg4 a b c : StableHlo.TRef sig ⟨S2x1280x7, .i32⟩).ofBuf v = v := fun _ _ _ _ => rfl
  have e8 : ∀ (a b c) (v : (⟨S2x1280x16000, .f32⟩ : BufTy).Contents (Elt Ideal)),
      (StableHlo.TRef.of main_v8 a b c : StableHlo.TRef sig ⟨S2x1280x16000, .f32⟩).ofBuf v = v := fun _ _ _ _ => rfl
  have e30 : ∀ (a b c) (v : (⟨S2x1280x7, .f32⟩ : BufTy).Contents (Elt Ideal)),
      (StableHlo.TRef.of main_v30 a b c : StableHlo.TRef sig ⟨S2x1280x7, .f32⟩).toBuf v = v := fun _ _ _ _ => rfl
  rw [e30, e8, e5, ea, e4]
  unfold takeT
  congr 1
theorem stageD22 : StableHlo.after (hostOps1_3 (F := Ideal)) W (Proc.devRef .tc main_v22) = W (Proc.devRef .tc main_v22) := by
  after_results
theorem stageD29 : StableHlo.after (hostOps1_3 (F := Ideal)) W (Proc.devRef .tc main_v29) = W (Proc.devRef .tc main_v29) := by
  after_results

theorem after_app (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

/-- The four stretches of host operations, one after another. -/
theorem after_all : StableHlo.after ([hostOps1, hostOps1_1, hostOps1_2, hostOps1_3] : List (List (HloOp τ sig (Elt Ideal)))).flatten W
    = StableHlo.after hostOps1_3 (StableHlo.after hostOps1_2 (StableHlo.after hostOps1_1 (StableHlo.after hostOps1 W))) := by
  rw [List.flatten_cons, List.flatten_cons, List.flatten_cons, List.flatten_cons, List.flatten_nil, List.append_nil, after_app, after_app, after_app]

/-- The logits the four stretches make of the region's products. -/
def zW : FVec Ideal S2x1280x16000 .f32 :=
  zArr (F := Ideal) (W (Proc.devRef .tc main_v0)) (W (Proc.devRef .tc main_arg2)) (W (Proc.devRef .tc main_arg3))

theorem all22 : StableHlo.after ([hostOps1, hostOps1_1, hostOps1_2, hostOps1_3] : List (List (HloOp τ sig (Elt Ideal)))).flatten W (Proc.devRef .tc main_v22)
    = ent (zW W) (lsm (zW W)) := by
  rw [after_all, stageD22, stageC, stageB, stageB7, stageA]; rfl
theorem all29 : StableHlo.after ([hostOps1, hostOps1_1, hostOps1_2, hostOps1_3] : List (List (HloOp τ sig (Elt Ideal)))).flatten W (Proc.devRef .tc main_v29)
    = vent (zW W) (lsm (zW W)) := by
  rw [after_all, stageD29, stageC29, stageB, stageB7, stageA]; rfl
theorem all30 : StableHlo.after ([hostOps1, hostOps1_1, hostOps1_2, hostOps1_3] : List (List (HloOp τ sig (Elt Ideal)))).flatten W (Proc.devRef .tc main_v30)
    = takeT (lsm (zW W)) (W (Proc.devRef .tc main_arg4)) := by
  rw [after_all, stageD, stageC8, stageC4, stageB, stageB4, stageA, stageA4]; rfl

end Cert.Ref

end
-- ==== Proof.Math.lean ====
/-
  The arithmetic of the head over the extended reals, with no program in sight: one running
  maximum and three running sums (of `2^d`, `d·2^d`, `d²·2^d`, `d` the distance of a logit to the maximum),
  how they move when the maximum moves, and what they give at the end.
-/
module

public import Idealize.ShloMosaic.PureOps.Ideal

@[expose] public section

noncomputable section

namespace Cert.Head

open Idealize.ShloMosaic

/-- The `k`-th weighted term of a logit `z` under the maximum `m`: `d^k · 2^d` at `d = z - m`, and zero where `d = -∞`. -/
def tk (k : ℕ) (z m : EReal) : ℝ := if z - m = ⊥ then 0 else (z - m).toReal ^ k * Real.rpow 2 (z - m).toReal

/-- The sum of the `k`-th terms over the rows in `A`. -/
def T {ι : Type*} (k : ℕ) (Z : ι → EReal) (A : Finset ι) (m : EReal) : ℝ := ∑ v ∈ A, tk k (Z v) m

/-- The distance the maximum moves, zero from `-∞`. -/
def dmOf (m m' : EReal) : EReal := if m = ⊥ then 0 else m - m'

theorem sub_top' (z : EReal) : z - ⊤ = ⊥ := by
  rw [sub_eq_add_neg, EReal.neg_top, EReal.add_bot]

theorem tk_bot (k : ℕ) (m : EReal) : tk k ⊥ m = 0 := by
  unfold tk; rw [if_pos (EReal.bot_sub m)]

theorem tk_top (k : ℕ) (z : EReal) : tk k z ⊤ = 0 := by
  unfold tk; rw [if_pos (sub_top' z)]

theorem tk_coe (k : ℕ) (a b : ℝ) : tk k (a : EReal) (b : EReal) = (a - b) ^ k * Real.rpow 2 (a - b) := by
  unfold tk; rw [← EReal.coe_sub, if_neg (EReal.coe_ne_bot _), EReal.toReal_coe]

/-- A logit below the maximum is at distance `-∞` or both are real. -/
theorem sub_cases {z m : EReal} (h : z ≤ m) : z - m = ⊥ ∨ ∃ a b : ℝ, z = a ∧ m = b := by
  induction m with
  | bot => left; rw [le_bot_iff.mp h]; rfl
  | top => left; exact sub_top' z
  | coe b =>
    induction z with
    | bot => left; exact EReal.bot_sub _
    | top => exact absurd h (by simp)
    | coe a => right; exact ⟨a, b, rfl, rfl⟩

theorem exp2_bot : Ideal.exp2 ⊥ = 0 := rfl
theorem exp2_coe (r : ℝ) : Ideal.exp2 (r : EReal) = ((Real.rpow 2 r : ℝ) : EReal) := rfl

/-- The three terms the kernel forms of one logit are the coercions of `tk`. -/
theorem terms {z m : EReal} (h : z ≤ m) :
    Ideal.exp2 (z - m) = ((tk 0 z m : ℝ) : EReal) ∧ (z - m) * Ideal.exp2 (z - m) = ((tk 1 z m : ℝ) : EReal)
      ∧ (z - m) * ((z - m) * Ideal.exp2 (z - m)) = ((tk 2 z m : ℝ) : EReal) := by
  rcases sub_cases h with h | ⟨a, b, rfl, rfl⟩
  · unfold tk; simp only [h, if_true]
    rw [exp2_bot]; simp
  · rw [tk_coe, tk_coe, tk_coe, ← EReal.coe_sub]
    refine ⟨?_, ?_, ?_⟩ <;> simp only [exp2_coe, ← EReal.coe_mul] <;> congr 1 <;> ring

variable {ι : Type*} (Z : ι → EReal) (A : Finset ι)

theorem T_bot (k : ℕ) (h : ∀ v ∈ A, Z v ≤ ⊥) (m' : EReal) : T k Z A m' = 0 :=
  Finset.sum_eq_zero fun v hv => by rw [le_bot_iff.mp (h v hv), tk_bot]

theorem T_top (k : ℕ) : T k Z A ⊤ = 0 := Finset.sum_eq_zero fun v _ => tk_top k _

/-- What the three running sums become when the maximum moves from `m` to `m'`. -/
theorem shift {m m' : EReal} (hA : ∀ v ∈ A, Z v ≤ m) (hm : m ≤ m') :
    ((T 0 Z A m : ℝ) : EReal) * Ideal.exp2 (dmOf m m') = ((T 0 Z A m' : ℝ) : EReal)
    ∧ (((T 1 Z A m : ℝ) : EReal) + dmOf m m' * ((T 0 Z A m : ℝ) : EReal)) * Ideal.exp2 (dmOf m m') = ((T 1 Z A m' : ℝ) : EReal)
    ∧ (((T 2 Z A m : ℝ) : EReal) + ((2 : ℝ) : EReal) * dmOf m m' * ((T 1 Z A m : ℝ) : EReal)
        + dmOf m m' * dmOf m m' * ((T 0 Z A m : ℝ) : EReal)) * Ideal.exp2 (dmOf m m') = ((T 2 Z A m' : ℝ) : EReal) := by
  induction m with
  | bot =>
    simp only [dmOf, if_true, T_bot Z A _ hA]
    refine ⟨?_, ?_, ?_⟩ <;> simp
  | top =>
    obtain rfl := top_le_iff.mp hm
    have : dmOf ⊤ ⊤ = ⊥ := by unfold dmOf; rw [if_neg (by decide)]; exact sub_top' _
    rw [this]
    refine ⟨?_, ?_, ?_⟩ <;> simp [exp2_bot, T_top]
  | coe b =>
    induction m' with
    | bot => exact absurd hm (by simp)
    | top =>
      have : dmOf (b : EReal) ⊤ = ⊥ := by unfold dmOf; rw [if_neg (EReal.coe_ne_bot _)]; exact sub_top' _
      rw [this]
      refine ⟨?_, ?_, ?_⟩ <;> simp [exp2_bot, T_top]
    | coe b' =>
      have hd : dmOf (b : EReal) (b' : EReal) = ((b - b' : ℝ) : EReal) := by
        unfold dmOf; rw [if_neg (EReal.coe_ne_bot _), EReal.coe_sub]
      rw [hd]
      have he : Ideal.exp2 ((b - b' : ℝ) : EReal) = ((Real.rpow 2 (b - b') : ℝ) : EReal) := rfl
      rw [he]
      have key : ∀ v ∈ A, tk 0 (Z v) b * Real.rpow 2 (b - b') = tk 0 (Z v) b'
          ∧ (tk 1 (Z v) b + (b - b') * tk 0 (Z v) b) * Real.rpow 2 (b - b') = tk 1 (Z v) b'
          ∧ (tk 2 (Z v) b + 2 * (b - b') * tk 1 (Z v) b + (b - b') * (b - b') * tk 0 (Z v) b) * Real.rpow 2 (b - b') = tk 2 (Z v) b' := by
        intro v hv
        have hz := hA v hv
        generalize Z v = z at hz
        induction z with
        | bot => simp [tk_bot]
        | top => exact absurd hz (by simp)
        | coe a =>
          simp only [tk_coe]
          have hp : Real.rpow 2 (a - b') = Real.rpow 2 (a - b) * Real.rpow 2 (b - b') := by
            have := Real.rpow_add (x := 2) (by norm_num) (a - b) (b - b')
            simpa using this
          rw [hp]
          refine ⟨?_, ?_, ?_⟩ <;> ring
      simp only [← EReal.coe_mul, ← EReal.coe_add]
      unfold T
      refine ⟨?_, ?_, ?_⟩ <;> congr 1
      · rw [Finset.sum_mul]; exact Finset.sum_congr rfl fun v hv => (key v hv).1
      · rw [Finset.mul_sum, ← Finset.sum_add_distrib, Finset.sum_mul]
        exact Finset.sum_congr rfl fun v hv => (key v hv).2.1
      · rw [Finset.mul_sum, Finset.mul_sum, ← Finset.sum_add_distrib, ← Finset.sum_add_distrib, Finset.sum_mul]
        exact Finset.sum_congr rfl fun v hv => (key v hv).2.2

/-- A finite sum of coerced reals is the coercion of the sum. -/
theorem coe_sum {κ : Type*} (s : Finset κ) (f : κ → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

end Cert.Head

end
-- ==== Proof.Finish.lean ====
/-
  The end of the head over the extended reals: from the maximum and the three base-two sums of one token to
  its entropy, varentropy and target log-probability, as the reference's natural-base log-softmax has them.
-/
module

public import proofs.«01_k».proof.Proof.Math

@[expose] public section

noncomputable section

namespace Cert.Head

open Idealize.ShloMosaic

/-- The factor from natural to base-two logits, `1 / log 2`. -/
def cR : ℝ := (Real.log 2)⁻¹

theorem log2_pos : 0 < Real.log 2 := Real.log_pos (by norm_num)
theorem cR_pos : 0 < cR := inv_pos.mpr log2_pos
theorem log2_cR : Real.log 2 * cR = 1 := mul_inv_cancel₀ log2_pos.ne'

theorem rpow_two (r : ℝ) : Real.rpow 2 (r * cR) = Real.exp r := by
  show (2 : ℝ) ^ (r * cR) = _
  rw [Real.rpow_def_of_pos (by norm_num)]
  congr 1
  calc Real.log 2 * (r * cR) = r * (Real.log 2 * cR) := by ring
    _ = r := by rw [log2_cR, mul_one]

/-- Scaling by `1 / log 2` respects the order. -/
theorem scale_le {x y : EReal} (h : x ≤ y) : x * (cR : EReal) ≤ y * (cR : EReal) :=
  mul_le_mul_of_nonneg_right h (by exact_mod_cast cR_pos.le)

/-- … and commutes with the maximum. -/
theorem scale_max (x y : EReal) : max x y * (cR : EReal) = max (x * (cR : EReal)) (y * (cR : EReal)) := by
  rcases le_total x y with h | h
  · rw [max_eq_right h, max_eq_right (scale_le h)]
  · rw [max_eq_left h, max_eq_left (scale_le h)]

theorem exp_bot : Ideal.exp ⊥ = 0 := rfl
theorem exp_coe (r : ℝ) : Ideal.exp (r : EReal) = ((Real.exp r : ℝ) : EReal) := rfl
theorem log_zero : Ideal.log 0 = ⊥ := by
  show (if (0 : ℝ) ≤ 0 then (⊥ : EReal) else _) = ⊥
  rw [if_pos le_rfl]
theorem log_pos' {r : ℝ} (h : 0 < r) : Ideal.log (r : EReal) = ((Real.log r : ℝ) : EReal) := by
  show (if r ≤ 0 then (⊥ : EReal) else _) = _
  rw [if_neg (not_le.mpr h)]
theorem div_zero_zero : Ideal.div 0 0 = ⊥ := by unfold Ideal.div; simp
theorem div_coe (x : ℝ) {y : ℝ} (h : y ≠ 0) : Ideal.div (x : EReal) (y : EReal) = ((x / y : ℝ) : EReal) := by
  unfold Ideal.div
  rw [if_neg (by exact_mod_cast h), ← EReal.coe_inv, ← EReal.coe_mul, div_eq_mul_inv]

variable {ι : Type*} [Fintype ι]

/-- The natural-base quantities of the reference, of one token's logits `z` under `m`. -/
def rSum (z : ι → EReal) (m : EReal) : EReal := 0 + ∑ v, Ideal.exp (z v - m)
def rLogp (z : ι → EReal) (m : EReal) (v : ι) : EReal := (z v - m) - Ideal.log (rSum z m)
def rH (z : ι → EReal) (m : EReal) : EReal := -(0 + ∑ v, Ideal.div (Ideal.exp (z v - m)) (rSum z m) * rLogp z m v)
def rV (z : ι → EReal) (m : EReal) : EReal :=
  0 + ∑ v, Ideal.exp (rLogp z m v) * ((rLogp z m v + rH z m) * (rLogp z m v + rH z m))

/-- What the kernel ends with, of its three sums, its maximum and its target logit. -/
def kLse (s0 : EReal) : EReal := Ideal.log s0 * (cR : EReal)
def kH (s0 s1 : EReal) : EReal := ((Real.log 2 : ℝ) : EReal) * (kLse s0 - Ideal.div s1 s0)
def kV (s0 s1 s2 : EReal) : EReal :=
  ((Real.log 2 * Real.log 2 : ℝ) : EReal) * max (Ideal.div s2 s0 - Ideal.div s1 s0 * Ideal.div s1 s0) 0
def kT (s0 m zt : EReal) : EReal := ((Real.log 2 : ℝ) : EReal) * (zt - m - kLse s0)

section Degenerate

variable (z : ι → EReal) (m : EReal) (h : ∀ v, z v - m = ⊥)
include h

theorem rSum_deg : rSum z m = 0 := by
  unfold rSum; rw [zero_add]
  exact Finset.sum_eq_zero fun v _ => by rw [h v, exp_bot]

theorem rLogp_deg (v : ι) : rLogp z m v = ⊥ := by
  unfold rLogp; rw [h v, EReal.bot_sub]

theorem rH_deg [Nonempty ι] : rH z m = ⊥ := by
  unfold rH
  have : ∀ v ∈ (Finset.univ : Finset ι), Ideal.div (Ideal.exp (z v - m)) (rSum z m) * rLogp z m v = ⊤ := fun v _ => by
    rw [h v, exp_bot, rSum_deg z m h, rLogp_deg z m h, div_zero_zero, EReal.bot_mul_bot]
  rw [Finset.sum_congr rfl this, zero_add, Finset.sum_const]
  have hc : 0 < Finset.card (Finset.univ : Finset ι) := Finset.card_pos.mpr Finset.univ_nonempty
  have : ∀ n : ℕ, 0 < n → n • (⊤ : EReal) = ⊤ := by
    intro n hn
    induction n with
    | zero => omega
    | succ n ih =>
      rw [succ_nsmul]
      rcases Nat.eq_zero_or_pos n with rfl | hp
      · simp
      · rw [ih hp]; rfl
  rw [this _ hc]; rfl

theorem rV_deg : rV z m = 0 := by
  unfold rV; rw [zero_add]
  exact Finset.sum_eq_zero fun v _ => by rw [rLogp_deg z m h, exp_bot, zero_mul]

end Degenerate

theorem kLse_zero : kLse 0 = ⊥ := by
  unfold kLse; rw [log_zero]; exact EReal.bot_mul_coe_of_pos cR_pos
theorem kH_deg : kH 0 0 = ⊥ := by
  unfold kH; rw [kLse_zero, EReal.bot_sub]; exact EReal.coe_mul_bot_of_pos log2_pos
theorem kV_deg : kV 0 0 0 = 0 := by
  unfold kV; rw [div_zero_zero, EReal.bot_sub]; simp
theorem kT_deg {m zt : EReal} (h : zt - m = ⊥) : kT 0 m zt = ⊥ := by
  unfold kT; rw [h, EReal.bot_sub]; exact EReal.coe_mul_bot_of_pos log2_pos

section Regular

variable (z : ι → EReal) (b : ℝ) (hz : ∀ v, z v ≤ (b : EReal)) (hatt : ∃ v, z v = (b : EReal))

/-- The weight `exp (z - m)` of a logit, and its distance to the maximum (zero where the weight is). -/
def wt (x : EReal) (b : ℝ) : ℝ := if x = ⊥ then 0 else Real.exp (x.toReal - b)
def ds (x : EReal) (b : ℝ) : ℝ := if x = ⊥ then 0 else x.toReal - b

theorem wt_coe (a b : ℝ) : wt (a : EReal) b = Real.exp (a - b) := by
  unfold wt; rw [if_neg (EReal.coe_ne_bot _), EReal.toReal_coe]
theorem ds_coe (a b : ℝ) : ds (a : EReal) b = a - b := by
  unfold ds; rw [if_neg (EReal.coe_ne_bot _), EReal.toReal_coe]
theorem wt_bot (b : ℝ) : wt ⊥ b = 0 := if_pos rfl
theorem ds_bot (b : ℝ) : ds ⊥ b = 0 := if_pos rfl

theorem wt_nonneg (x : EReal) (b : ℝ) : 0 ≤ wt x b := by
  unfold wt; split_ifs
  · exact le_rfl
  · exact (Real.exp_pos _).le

theorem exp_sub_eq {x : EReal} {b : ℝ} (h : x ≤ (b : EReal)) : Ideal.exp (x - b) = ((wt x b : ℝ) : EReal) := by
  induction x with
  | bot => rw [EReal.bot_sub, exp_bot, wt_bot]; rfl
  | top => exact absurd h (by simp)
  | coe a => rw [← EReal.coe_sub, exp_coe, wt_coe]

/-- The base-two terms of the scaled logit are the natural ones times a power of `1 / log 2`. -/
theorem tk_scale (k : ℕ) {x : EReal} {b : ℝ} (h : x ≤ (b : EReal)) :
    tk k (x * (cR : EReal)) ((b : EReal) * (cR : EReal)) = cR ^ k * (ds x b ^ k * wt x b) := by
  induction x with
  | bot => rw [EReal.bot_mul_coe_of_pos cR_pos, tk_bot, wt_bot]; ring
  | top => exact absurd h (by simp)
  | coe a =>
    rw [← EReal.coe_mul, ← EReal.coe_mul, tk_coe, wt_coe, ds_coe, ← sub_mul, rpow_two, mul_pow]; ring

/-- The natural sums of one token. -/
def N (k : ℕ) : ℝ := ∑ v, ds (z v) b ^ k * wt (z v) b

include hz in
theorem T_scale (k : ℕ) :
    T k (fun v => z v * (cR : EReal)) Finset.univ ((b : EReal) * (cR : EReal)) = cR ^ k * N z b k := by
  unfold T N; rw [Finset.mul_sum]
  exact Finset.sum_congr rfl fun v _ => tk_scale k (hz v)

include hatt in
theorem N0_pos : 0 < N z b 0 := by
  obtain ⟨v, hv⟩ := hatt
  refine Finset.sum_pos' (fun v _ => by simpa using wt_nonneg _ _) ⟨v, Finset.mem_univ v, ?_⟩
  rw [hv, wt_coe]; simp

include hz in
theorem rSum_reg : rSum z b = ((N z b 0 : ℝ) : EReal) := by
  unfold rSum N
  rw [zero_add, ← coe_sum]
  exact Finset.sum_congr rfl fun v _ => by rw [exp_sub_eq (hz v)]; simp

include hz hatt in
theorem rLogp_reg (v : ι) : rLogp z b v = (z v - b) - ((Real.log (N z b 0) : ℝ) : EReal) := by
  unfold rLogp; rw [rSum_reg z b hz, log_pos' (N0_pos z b hatt)]

include hz hatt in
theorem rH_reg : rH z b = ((Real.log (N z b 0) - N z b 1 / N z b 0 : ℝ) : EReal) := by
  have hS := N0_pos z b hatt
  have hterm : ∀ v ∈ (Finset.univ : Finset ι), Ideal.div (Ideal.exp (z v - b)) (rSum z b) * rLogp z b v
      = ((wt (z v) b / N z b 0 * (ds (z v) b - Real.log (N z b 0)) : ℝ) : EReal) := by
    intro v _
    rw [rLogp_reg z b hz hatt, exp_sub_eq (hz v), rSum_reg z b hz, div_coe _ hS.ne']
    have := hz v
    generalize z v = x at this
    induction x with
    | bot => rw [EReal.bot_sub, EReal.bot_sub, wt_bot]; simp
    | top => exact absurd this (by simp)
    | coe a => rw [wt_coe, ds_coe, ← EReal.coe_sub, ← EReal.coe_sub, ← EReal.coe_mul]
  unfold rH
  rw [zero_add, Finset.sum_congr rfl hterm, coe_sum, ← EReal.coe_neg]
  congr 1
  have : ∀ v ∈ (Finset.univ : Finset ι), wt (z v) b / N z b 0 * (ds (z v) b - Real.log (N z b 0))
      = (ds (z v) b ^ 1 * wt (z v) b) * (N z b 0)⁻¹ - (ds (z v) b ^ 0 * wt (z v) b) * ((N z b 0)⁻¹ * Real.log (N z b 0)) := by
    intro v _; ring
  rw [Finset.sum_congr rfl this, Finset.sum_sub_distrib, ← Finset.sum_mul, ← Finset.sum_mul]
  show -(N z b 1 * _ - N z b 0 * _) = _
  field_simp; ring

include hz hatt in
theorem rV_reg : rV z b = ((N z b 2 / N z b 0 - (N z b 1 / N z b 0) ^ 2 : ℝ) : EReal)
    ∧ 0 ≤ N z b 2 / N z b 0 - (N z b 1 / N z b 0) ^ 2 := by
  have hS := N0_pos z b hatt
  have hterm : ∀ v ∈ (Finset.univ : Finset ι), Ideal.exp (rLogp z b v) * ((rLogp z b v + rH z b) * (rLogp z b v + rH z b))
      = ((wt (z v) b / N z b 0 * (ds (z v) b - N z b 1 / N z b 0) ^ 2 : ℝ) : EReal) := by
    intro v _
    rw [rLogp_reg z b hz hatt, rH_reg z b hz hatt]
    have := hz v
    generalize z v = x at this
    induction x with
    | bot => rw [EReal.bot_sub, EReal.bot_sub, wt_bot, exp_bot]; simp
    | top => exact absurd this (by simp)
    | coe a =>
      rw [wt_coe, ds_coe, ← EReal.coe_sub, ← EReal.coe_sub, exp_coe, ← EReal.coe_add, ← EReal.coe_mul, ← EReal.coe_mul,
        Real.exp_sub, Real.exp_log hS]
      congr 1; ring
  have hsum : ∑ v, wt (z v) b / N z b 0 * (ds (z v) b - N z b 1 / N z b 0) ^ 2 = N z b 2 / N z b 0 - (N z b 1 / N z b 0) ^ 2 := by
    have : ∀ v ∈ (Finset.univ : Finset ι), wt (z v) b / N z b 0 * (ds (z v) b - N z b 1 / N z b 0) ^ 2
        = (ds (z v) b ^ 2 * wt (z v) b) * (N z b 0)⁻¹ - (ds (z v) b ^ 1 * wt (z v) b) * (2 * (N z b 1 / N z b 0) * (N z b 0)⁻¹)
          + (ds (z v) b ^ 0 * wt (z v) b) * ((N z b 1 / N z b 0) ^ 2 * (N z b 0)⁻¹) := by
      intro v _; ring
    rw [Finset.sum_congr rfl this, Finset.sum_add_distrib, Finset.sum_sub_distrib, ← Finset.sum_mul, ← Finset.sum_mul, ← Finset.sum_mul]
    show N z b 2 * _ - N z b 1 * _ + N z b 0 * _ = _
    field_simp; ring
  constructor
  · unfold rV
    rw [zero_add, Finset.sum_congr rfl hterm, coe_sum, hsum]
  · rw [← hsum]
    exact Finset.sum_nonneg fun v _ => mul_nonneg (div_nonneg (wt_nonneg _ _) hS.le) (sq_nonneg _)

end Regular

/-- THE END OF THE HEAD: with the maximum attained and the three sums taken over all rows, the kernel's three
    results are the reference's, at every extended-real logit. -/
theorem finish [Nonempty ι] (z : ι → EReal) (m : EReal) (hz : ∀ v, z v ≤ m) (hatt : ∃ v, z v = m) (tgt : ι) :
    kH ((T 0 (fun v => z v * (cR : EReal)) Finset.univ (m * (cR : EReal)) : ℝ) : EReal)
        ((T 1 (fun v => z v * (cR : EReal)) Finset.univ (m * (cR : EReal)) : ℝ) : EReal) = rH z m
    ∧ kV ((T 0 (fun v => z v * (cR : EReal)) Finset.univ (m * (cR : EReal)) : ℝ) : EReal)
        ((T 1 (fun v => z v * (cR : EReal)) Finset.univ (m * (cR : EReal)) : ℝ) : EReal)
        ((T 2 (fun v => z v * (cR : EReal)) Finset.univ (m * (cR : EReal)) : ℝ) : EReal) = rV z m
    ∧ kT ((T 0 (fun v => z v * (cR : EReal)) Finset.univ (m * (cR : EReal)) : ℝ) : EReal)
        (m * (cR : EReal)) (z tgt * (cR : EReal)) = rLogp z m tgt := by
  have deg : (∀ k, T k (fun v => z v * (cR : EReal)) Finset.univ (m * (cR : EReal)) = 0) → (∀ v, z v - m = ⊥) →
      z tgt * (cR : EReal) - m * (cR : EReal) = ⊥ →
        kH ((T 0 (fun v => z v * (cR : EReal)) Finset.univ (m * (cR : EReal)) : ℝ) : EReal)
            ((T 1 (fun v => z v * (cR : EReal)) Finset.univ (m * (cR : EReal)) : ℝ) : EReal) = rH z m
        ∧ kV ((T 0 (fun v => z v * (cR : EReal)) Finset.univ (m * (cR : EReal)) : ℝ) : EReal)
            ((T 1 (fun v => z v * (cR : EReal)) Finset.univ (m * (cR : EReal)) : ℝ) : EReal)
            ((T 2 (fun v => z v * (cR : EReal)) Finset.univ (m * (cR : EReal)) : ℝ) : EReal) = rV z m
        ∧ kT ((T 0 (fun v => z v * (cR : EReal)) Finset.univ (m * (cR : EReal)) : ℝ) : EReal)
            (m * (cR : EReal)) (z tgt * (cR : EReal)) = rLogp z m tgt := fun hT hd ht => by
    rw [hT, hT, hT, EReal.coe_zero]
    exact ⟨kH_deg.trans (rH_deg z m hd).symm, kV_deg.trans (rV_deg z m hd).symm,
      (kT_deg ht).trans (rLogp_deg z m hd tgt).symm⟩
  induction m with
  | bot =>
    have hb : ∀ v, z v = ⊥ := fun v => le_bot_iff.mp (hz v)
    refine deg (fun k => Finset.sum_eq_zero fun v _ => ?_) (fun v => by rw [hb v, EReal.bot_sub]) ?_
    · show tk k (z v * (cR : EReal)) _ = 0
      rw [hb v, EReal.bot_mul_coe_of_pos cR_pos, tk_bot]
    · rw [hb tgt, EReal.bot_mul_coe_of_pos cR_pos, EReal.bot_sub]
  | top =>
    have ht : (⊤ : EReal) * (cR : EReal) = ⊤ := EReal.top_mul_coe_of_pos cR_pos
    refine deg (fun k => ?_) (fun v => sub_top' _) ?_
    · rw [ht, T_top]
    · rw [ht, sub_top']
  | coe b =>
    have hS := N0_pos z b hatt
    simp only [T_scale z b hz, pow_zero, one_mul, pow_one]
    have hl : kLse ((N z b 0 : ℝ) : EReal) = ((Real.log (N z b 0) * cR : ℝ) : EReal) := by
      unfold kLse; rw [log_pos' hS, ← EReal.coe_mul]
    have hc2 : Real.log 2 * Real.log 2 * (cR * cR) = 1 := by
      calc _ = (Real.log 2 * cR) * (Real.log 2 * cR) := by ring
        _ = 1 := by rw [log2_cR, one_mul]
    refine ⟨?_, ?_, ?_⟩
    · rw [rH_reg z b hz hatt]
      unfold kH
      rw [hl, div_coe _ hS.ne', ← EReal.coe_sub, ← EReal.coe_mul]
      congr 1
      calc _ = (Real.log 2 * cR) * (Real.log (N z b 0) - N z b 1 / N z b 0) := by ring
        _ = _ := by rw [log2_cR, one_mul]
    · obtain ⟨hV, h0⟩ := rV_reg z b hz hatt
      rw [hV]
      unfold kV
      rw [div_coe _ hS.ne', div_coe _ hS.ne', ← EReal.coe_mul, ← EReal.coe_sub, max_eq_left, ← EReal.coe_mul]
      · congr 1
        calc _ = (Real.log 2 * Real.log 2 * (cR * cR)) * (N z b 2 / N z b 0 - (N z b 1 / N z b 0) ^ 2) := by ring
          _ = _ := by rw [hc2, one_mul]
      · have : cR ^ 2 * N z b 2 / N z b 0 - cR * N z b 1 / N z b 0 * (cR * N z b 1 / N z b 0)
            = cR ^ 2 * (N z b 2 / N z b 0 - (N z b 1 / N z b 0) ^ 2) := by ring
        rw [this]
        exact_mod_cast mul_nonneg (sq_nonneg _) h0
    · rw [rLogp_reg z b hz hatt]
      unfold kT
      rw [hl]
      have := hz tgt
      generalize z tgt = x at this
      induction x with
      | bot =>
        rw [EReal.bot_mul_coe_of_pos cR_pos]
        simp only [EReal.bot_sub]
        exact EReal.coe_mul_bot_of_pos log2_pos
      | top => exact absurd this (by simp)
      | coe a =>
        simp only [← EReal.coe_mul, ← EReal.coe_sub]
        congr 1
        calc _ = (Real.log 2 * cR) * (a - b - Real.log (N z b 0)) := by ring
          _ = _ := by rw [log2_cR, one_mul]

end Cert.Head

end
-- ==== Proof.RefValue.lean ====
/- The head's reference, run: its three results at an index. -/
module

public import proofs.«01_k».proof.Proof.Consts
public import proofs.«01_k».proof.Proof.RefHost
public import Idealize.ShloMosaic.Lib.Pointwise
public import Idealize.ShloMosaic.Lib.Pipeline.ValueKit
public import Idealize.ShloMosaic.Lib.Claim
public import Idealize.ShloMosaic.Lib.KernelVsHost
public import proofs.«01_k».proof.Proof.Gen.ReferenceIdeal.Frame
public import proofs.«01_k».proof.Proof.Finish

@[expose] public section

set_option maxRecDepth 16384

noncomputable section

namespace Cert.Ref

open Cert.ReferenceIdeal Cert.ReferenceIdeal.Gen Idealize.ShloMosaic Idealize.ShloMosaic.TcCoe Idealize.SL.Sem

/-- The products of the codes, one per token and word. -/
def accOf (a0 : Vec Ideal S2560x16384 .fp8e4m3) (a1 : Vec Ideal S16000x16384 .fp8e4m3) : Vec Ideal S2560x16000 .f32 :=
  fun i => ∑ k : Fin 16384, a0 (ix2 (i 0) k) * a1 (ix2 (i 1) k)

theorem pay1_apply (x0 : Vec Ideal S2560x16384 .fp8e4m3) (x1 : Vec Ideal S16000x16384 .fp8e4m3) (n : Fin 2560) (v : Fin 16000) :
    k0_pay1 (F := Ideal) x0 x1 (ix2 n v) = ∑ k : Fin 16384, x0 (ix2 n k) * x1 (ix2 v k) := by
  pointwise [k0_pay1]

section
variable (m : (ℓ : Loc nD τ sig) → Buf (Elt Ideal) ℓ)

theorem idx : ∀ t : Fin cfg0.N, win0_0.index t = ![0, 0] ∧ win0_1.index t = ![0, 0] ∧ win0_2.index t = ![0, 0] := by
  decide +kernel

/-- The one block of each operand is the whole of it. -/
theorem iblk0 (c : Dev nD) (t : Fin cfg0.N) : (iblk m c 0 t : Vec Ideal S2560x16384 .fp8e4m3) = m ((c.tc : Thread nD τ).loc main_arg0) := by
  funext y
  blk_ext [iblk, V, (idx t).1]

theorem iblk1 (c : Dev nD) (t : Fin cfg0.N) : (iblk m c 1 t : Vec Ideal S16000x16384 .fp8e4m3) = m ((c.tc : Thread nD τ).loc main_arg1) := by
  funext y
  blk_ext [iblk, V, (idx t).2.1]

theorem putA (a0 : Vec Ideal S2560x16384 .fp8e4m3) (a1 : Vec Ideal S16000x16384 .fp8e4m3) (y z : S2560x16000.Idx)
    (h0 : (z 0).val = (y 0).val) (h1 : (z 1).val = (y 1).val) : k0_pay1 (F := Ideal) a0 a1 y = accOf a0 a1 z := by
  obtain rfl : z = y := funext fun a => Fin.ext (by match a with | ⟨0, _⟩ => exact h0 | ⟨1, _⟩ => exact h1)
  rw [ValueIdx.eq_ix2 z]
  exact pay1_apply a0 a1 (z 0) (z 1)

/-- The region leaves the products. -/
theorem arr2 (c : Dev nD) : (dats m 0 c).arrAt 2 cfg0.N = accOf (m ((c.tc : Thread nD τ).loc main_arg0)) (m ((c.tc : Thread nD τ).loc main_arg1)) := by
  refine (dats m 0 c).arrAt_eq_of_covers 2 _ (by decide +kernel) fun t hf y => ?_
  have e := (idx t).2.2
  blk_simp
  rw [after0_2]
  frame_out
  rw [iblk0, iblk1]
  refine putA _ _ y _ ?_ ?_
  · blk_simp [e]
  · blk_simp [e]
end

section
open Cert.Head
variable (Z L : FVec Ideal S2x1280x16000 .f32) (A : FVec Ideal S2x1280 .f32) (b : Fin 2) (q : Fin 1280) (v : Fin 16000)

/-- A token's logits. -/
def row : Fin 16000 → EReal := fun w => Z (ix3 b q w)
/-- Their maximum. -/
def top : EReal := Finset.univ.sup (row Z b q)

theorem spread_apply : spread A (ix3 b q v) = A (ix2 b q) := by
  pointwise [spread]

theorem total_apply : total Z (ix2 b q) = 0 + ∑ w : Fin 16000, Z (ix3 b q w) := by
  pointwise [total]

/-- A fold of the maximum from minus infinity is the greatest of its values. -/
theorem fold_sup {n : ℕ} (g g' : Fin n → EReal) (c : EReal) (hc : c = ⊥) (hg : ∀ k, g k = g' k) :
    Finset.fold (FloatOps.maximumf (F := Ideal) (φ := .f32)) c g Finset.univ = Finset.univ.sup g' := by
  obtain rfl : g = g' := funext hg
  subst hc
  rfl

theorem redR : S2x1280x16000.Reduces [2] S2x1280 := by decide

/-- The logit the maximum's fold reads at a word. -/
theorem lift_apply (k : Fin 16000) : (redR.lift (ix2 b q) k : S2x1280x16000.Idx) = ix3 b q k := by
  funext a
  refine Fin.ext ?_
  match a with
  | ⟨0, _⟩ => rfl
  | ⟨1, _⟩ => rfl
  | ⟨2, _⟩ => rfl

theorem red_apply : Host.reduce FloatOps.maximumf Z (constant S_ .f32 0xFF800000#32) reducesTo_S2x1280x16000_S2x1280_d2 h_S_ (ix2 b q) = top Z b q :=
  (Host.reduce_eq_fold_single FloatOps.maximumf Z _ _ redR _ _).trans
    (fold_sup (n := 16000) _ _ _ Cert.Consts.negInf fun k => congrArg Z (lift_apply b q k))

theorem max_apply : maximumf (F := Ideal) (φ := .f32) (broadcastInDim S2x1280 ![] bcast_S_S2x1280 (constant S_ .f32 0xFF800000#32)) A (ix2 b q)
    = max (Ideal.ofBits .f32 0xFF800000#32) (A (ix2 b q)) := by
  pointwise []

theorem rowMax_apply : rowMax Z (ix2 b q) = top Z b q := by
  unfold rowMax
  rw [max_apply, red_apply, Cert.Consts.negInf]
  exact max_eq_right bot_le

theorem cen_apply : cen Z (ix3 b q v) = row Z b q v - top Z b q := by
  pointwise [cen]
  rw [spread_apply, rowMax_apply]
  rfl

theorem sum_apply : total (Host.exp (cen Z)) (ix2 b q) = rSum (row Z b q) (top Z b q) := by
  rw [total_apply]
  refine congrArg (0 + ·) (Finset.sum_congr rfl fun w _ => ?_)
  pointwise []
  rw [cen_apply]

theorem lsm_apply : lsm Z (ix3 b q v) = rLogp (row Z b q) (top Z b q) v := by
  pointwise [lsm]
  rw [cen_apply, sum_apply]
  rfl

theorem smx_apply : smx Z (ix3 b q v) = Ideal.div (Ideal.exp (row Z b q v - top Z b q)) (rSum (row Z b q) (top Z b q)) := by
  pointwise [smx]
  rw [cen_apply, spread_apply, sum_apply]

theorem ent_apply : ent Z (lsm Z) (ix2 b q) = rH (row Z b q) (top Z b q) := by
  pointwise [ent]
  rw [total_apply]
  refine congrArg (fun x : EReal => -(0 + x)) (Finset.sum_congr rfl fun w _ => ?_)
  pointwise []
  rw [smx_apply, lsm_apply]

theorem vent_apply : vent Z (lsm Z) (ix2 b q) = rV (row Z b q) (top Z b q) := by
  unfold vent
  rw [total_apply]
  refine congrArg (0 + ·) (Finset.sum_congr rfl fun w _ => ?_)
  pointwise []
  rw [spread_apply, lsm_apply, ent_apply]

theorem zArr_apply (P : FVec Ideal S2560x16000 .f32) (a2 : FVec Ideal S16000 .f32) (a3 : FVec Ideal S2560x1 .f32) :
    zArr P a2 a3 (ix3 b q v) = P (ix2 (⟨b.val * 1280 + q.val, by omega⟩ : Fin 2560) v) * a3 (ix2 (⟨b.val * 1280 + q.val, by omega⟩ : Fin 2560) 0) * a2 (ix1 v) := by
  pointwise [zArr]

/-- The gather read at an index: the target word, read signed and clamped into the vocabulary. -/
theorem gather_apply (X : IVec S2x1280x7x1 32) (j : Fin 7) :
    Host.gather gather_S2x1280x16000_S2x1280x7x1_S2x1280x7_n_2_01_01_2_3_111 L X (ix3 b q j)
      = L (ix3 b q ⟨min (X (ix4 b q j 0)).toInt.toNat 15999, by omega⟩) := by
  generalize hd : gather_S2x1280x16000_S2x1280x7x1_S2x1280x7_n_2_01_01_2_3_111 = d
  unfold Host.gather
  congr 1
  funext a
  refine Fin.ext ?_
  show d.start (ix3 b q j) X a + d.batchCoord (ix3 b q j) a + d.offCoord (ix3 b q j) a = _
  subst hd
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (by decide),
      GatherDims.offCoord_eq_zero _ _ _ (fun h => ((GatherDims.mem_sKept _ _).mp h).2 (by decide))]
    simp only [Nat.zero_add, Nat.add_zero]
    unfold GatherDims.batchCoord
    rw [dif_pos (by decide)]
    rfl
  · rw [GatherDims.start_batching _ _ _ _ (by decide),
      GatherDims.offCoord_eq_zero _ _ _ (fun h => ((GatherDims.mem_sKept _ _).mp h).2 (by decide))]
    simp only [Nat.zero_add, Nat.add_zero]
    unfold GatherDims.batchCoord
    rw [dif_pos (by decide)]
    rfl
  · rw [GatherDims.batchCoord_eq_zero _ _ _ (by decide),
      GatherDims.offCoord_eq_zero _ _ _ (fun h => ((GatherDims.mem_sKept _ _).mp h).1 (by decide))]
    simp only [Nat.add_zero]
    unfold GatherDims.start
    rw [dif_pos (show (2 : Fin 3) ∈ gather_S2x1280x16000_S2x1280x7x1_S2x1280x7_n_2_01_01_2_3_111.startIndexMap by decide)]
    have hsi : gather_S2x1280x16000_S2x1280x7x1_S2x1280x7_n_2_01_01_2_3_111.siIdx (ix3 b q j)
        ⟨List.idxOf (2 : Fin 3) gather_S2x1280x16000_S2x1280x7x1_S2x1280x7_n_2_01_01_2_3_111.startIndexMap,
          List.idxOf_lt_length_iff.2 (by decide)⟩ = ix4 b q j 0 := by
      funext e; refine Fin.ext ?_
      match e with
      | ⟨0, _⟩ => rfl
      | ⟨1, _⟩ => rfl
      | ⟨2, _⟩ => rfl
      | ⟨3, _⟩ => rfl
    rw [hsi]
    rfl

/-- A word below the vocabulary's size, read signed, is itself. -/
theorem toInt_word (x : BitVec 32) (h : x.toNat < 16000) : x.toInt = x.toNat := by
  rw [BitVec.toInt_eq_toNat_of_lt (by omega)]
theorem slt_zero (x : BitVec 32) (h : x.toNat < 16000) : IntOp.cmpi .slt x 0#32 = 0#1 := by
  have e := toInt_word x h
  have e0 : (0#32).toInt = 0 := by decide
  have h1 : BitVec.slt x 0#32 = false := by rw [Bool.eq_false_iff, ne_eq, BitVec.slt_iff_toInt_lt, e, e0]; omega
  show BitVec.ofBool (BitVec.slt x 0#32) = 0#1
  rw [h1]; rfl
theorem sge_zero (x : BitVec 32) (h : x.toNat < 16000) : IntOp.cmpi .sge x 0#32 = 1#1 := by
  have e := toInt_word x h
  have e0 : (0#32).toInt = 0 := by decide
  have h1 : BitVec.sle 0#32 x = true := by rw [BitVec.sle_iff_toInt_le, e, e0]; omega
  show BitVec.ofBool (BitVec.sle 0#32 x) = 1#1
  rw [h1]; rfl
theorem sle_top (x : BitVec 32) (h : x.toNat < 16000) : IntOp.cmpi .sle x 15999#32 = 1#1 := by
  have e := toInt_word x h
  have e0 : (15999#32).toInt = 15999 := by decide
  have h1 : BitVec.sle x 15999#32 = true := by rw [BitVec.sle_iff_toInt_le, e, e0]; omega
  show BitVec.ofBool (BitVec.sle x 15999#32) = 1#1
  rw [h1]; rfl

variable (T : IVec S2x1280x7 32) (j : Fin 7)

theorem wrapT_apply (h : (T (ix3 b q j)).toNat < 16000) : wrapT T (ix4 b q j 0) = T (ix3 b q j) := by
  pointwise [wrapT]
  generalize T (ix3 b q j) = x at h
  rw [slt_zero x h]
  rfl

theorem okT_apply (X : IVec S2x1280x7x1 32) (h : (X (ix4 b q j 0)).toNat < 16000) : okT X (ix3 b q j) = 1#1 := by
  pointwise [okT]
  rw [show (Finset.univ : Finset (Fin 1)) = {0} from rfl, Finset.fold_singleton]
  generalize X (ix4 b q j 0) = x at h
  rw [sge_zero x h, sle_top x h]
  rfl

theorem takeT_apply (h : (T (ix3 b q j)).toNat < 16000) :
    takeT L T (ix3 b q j) = L (ix3 b q ⟨(T (ix3 b q j)).toNat % 16000, Nat.mod_lt _ (by decide)⟩) := by
  unfold takeT
  have e := wrapT_apply b q T j h
  pointwise []
  rw [okT_apply b q j _ (by rw [e]; exact h), gather_apply]
  refine congrArg L (congrArg (fun w : Fin 16000 => ix3 b q w) (Fin.ext ?_))
  show min (wrapT T (ix4 b q j 0)).toInt.toNat 15999 = (T (ix3 b q j)).toNat % 16000
  rw [e]
  generalize T (ix3 b q j) = x at h
  rw [toInt_word x h]
  omega
end

end Cert.Ref

end
-- ==== Proof.Entry.lean ====
/- What the head's region finds in the blocks it reads, and the values its grid's coordinates have. -/
module

public import proofs.«01_k».proof.Defs
public import proofs.«01_k».proof.Proof.Gen.KernelIdeal.Frame
public import proofs.«01_k».proof.Proof.Gen.Pre_targets_in_range
public import Idealize.ShloMosaic.Lib.Pointwise
public import Idealize.ShloMosaic.Lib.Pipeline.ValueKit
public import Idealize.ShloMosaic.Lib.Claim
public import Idealize.ShloMosaic.Lib.KernelVsHost

@[expose] public section

set_option maxRecDepth 16384

noncomputable section

namespace Cert.Head

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The vocabulary block of a grid point. -/
theorem coord1 : ∀ t : Fin cfg0.N, ((grid0.coords t) 1).val = t.val % 25 := by decide +kernel

/-- Which block each window is at, at each grid point. -/
theorem idx : ∀ t : Fin cfg0.N, win0_0.index t = ![t.val / 25, 0] ∧ win0_1.index t = ![t.val % 25, 0]
    ∧ win0_2.index t = ![t.val % 25, 0] ∧ win0_3.index t = ![0, t.val / 25] ∧ win0_4.index t = ![0, t.val / 25]
    ∧ win0_5.index t = ![0, t.val / 25] ∧ win0_6.index t = ![0, t.val / 25] ∧ win0_7.index t = ![0, t.val / 25] := by
  decide +kernel

theorem tlt (t : Fin cfg0.N) : t.val < 125 := t.isLt

/-- The token a column of a grid point's block stands for. -/
def tok (t : Fin cfg0.N) (l : Fin 512) : Fin 2560 := ⟨512 * (t.val / 25) + l.val, by have := tlt t; omega⟩
/-- The vocabulary row a row of a grid point's block stands for. -/
def voc (t : Fin cfg0.N) (r : Fin 640) : Fin 16000 := ⟨640 * (t.val % 25) + r.val, by omega⟩

/-- The codes of a token. -/
theorem iblk0 (t : Fin cfg0.N) (l : Fin 512) (k : Fin 16384) :
    (iblk m c 0 t : Vec Ideal S512x16384 .fp8e4m3) (ix2 l k) = m ((c : Thread nD τ).loc main_arg0) (ix2 (tok t l) k) := by
  have := tlt t
  unfold tok
  blk_ext [iblk, V, (idx t).1]

/-- The weights of a vocabulary row. -/
theorem iblk1 (t : Fin cfg0.N) (r : Fin 640) (k : Fin 16384) :
    (iblk m c 1 t : Vec Ideal S640x16384 .fp8e4m3) (ix2 r k) = m ((c : Thread nD τ).loc main_arg1) (ix2 (voc t r) k) := by
  have := tlt t
  unfold voc
  blk_ext [iblk, V, (idx t).2.1]

theorem V3 : V m c main_v3 = shapeCast S16000x1 (m ((c : Thread nD τ).loc main_arg2)) shapeCasts_S16000_S16000x1 := by
  entry_read
  rfl
theorem V4 : V m c main_v4 = shapeCast S1x2560 (m ((c : Thread nD τ).loc main_arg3)) shapeCasts_S2560x1_S1x2560 := by
  entry_read
  rfl
theorem V2 : V m c main_v2 = pad S8x2560 ![0, 0] ![1, 0] ![0, 0]
    (transpose S7x2560 [1, 0] (shapeCast S2560x7 (m ((c : Thread nD τ).loc main_arg4)) shapeCasts_S2x1280x7_S2560x7) transposes_S2560x7_S7x2560_1_0)
    (constantI S_ 32 0#32) pads_S7x2560_S8x2560_010_000 h_S_ := by
  entry_read
  rfl

/-- The scale of a vocabulary row. -/
theorem iblk2 (t : Fin cfg0.N) (r : Fin 640) :
    (iblk m c 2 t : Vec Ideal S640x1 .f32) (ix2 r 0) = m ((c : Thread nD τ).loc main_arg2) (ix1 (voc t r)) := by
  have := tlt t
  have e : (iblk m c 2 t : Vec Ideal S640x1 .f32) (ix2 r 0) = V m c main_v3 (ix2 (voc t r) 0) := by
    unfold voc
    blk_ext [iblk, (idx t).2.2.1]
  rw [e, V3]
  pointwise []

/-- The scale of a token. -/
theorem iblk3 (t : Fin cfg0.N) (l : Fin 512) :
    (iblk m c 3 t : Vec Ideal S1x512 .f32) (ix2 0 l) = m ((c : Thread nD τ).loc main_arg3) (ix2 (tok t l) 0) := by
  have := tlt t
  have e : (iblk m c 3 t : Vec Ideal S1x512 .f32) (ix2 0 l) = V m c main_v4 (ix2 0 (tok t l)) := by
    unfold tok
    blk_ext [iblk, (idx t).2.2.2.1]
  rw [e, V4]
  pointwise []

/-- The targets of a token, as the region reads them. -/
theorem iblk4 (t : Fin cfg0.N) (r : Fin 8) (l : Fin 512) :
    (iblk m c 4 t : Vec Ideal S8x512 .i32) (ix2 r l) = V m c main_v2 (ix2 r (tok t l)) := by
  have := tlt t
  unfold tok
  blk_ext [iblk, (idx t).2.2.2.2.1]

/-- The padded targets, as one array of the argument. -/
def tgtPad (X : Vec Ideal S2x1280x7 .i32) : Vec Ideal S8x2560 .i32 := pad S8x2560 ![0, 0] ![1, 0] ![0, 0]
    (transpose S7x2560 [1, 0] (shapeCast S2560x7 X shapeCasts_S2x1280x7_S2560x7) transposes_S2560x7_S7x2560_1_0)
    (constantI S_ 32 0#32) pads_S7x2560_S8x2560_010_000 h_S_

/-- A padded target is the argument's, -/
theorem tgtPad_lt (X : Vec Ideal S2x1280x7 .i32) (r : Fin 8) (n : Fin 2560) (h : r.val < 7) : tgtPad X (ix2 r n)
    = X (ix3 (⟨n.val / 1280, by omega⟩ : Fin 2) (⟨n.val % 1280, by omega⟩ : Fin 1280) (⟨r.val, h⟩ : Fin 7)) := by
  unfold tgtPad
  refine (pad_apply_of_inside (s := S7x2560) (t := S8x2560) ![0, 0] ![1, 0] ![0, 0] _ _ pads_S7x2560_S8x2560_010_000 h_S_ (ix2 r n)
    (ix2 (⟨r.val, h⟩ : Fin 7) n) (fun a => ?_)).trans ?_
  · match a with
    | ⟨0, _⟩ => show r.val = 0 + r.val * (0 + 1); omega
    | ⟨1, _⟩ => show n.val = 0 + n.val * (0 + 1); omega
  · pointwise []

/-- or the padding's zero. -/
theorem tgtPad_pad (X : Vec Ideal S2x1280x7 .i32) (r : Fin 8) (n : Fin 2560) (h : ¬ r.val < 7) : tgtPad X (ix2 r n) = 0#32 := by
  unfold tgtPad
  refine (pad_apply_of_not_inside (s := S7x2560) (t := S8x2560) ![0, 0] ![1, 0] ![0, 0] _ _ pads_S7x2560_S8x2560_010_000 h_S_ (ix2 r n) (0 : Fin 2) (fun hh => h ?_)).trans rfl
  have h2 : (r.val - 0) / (0 + 1) < 7 := hh.2.2
  omega

/-- The region reads the padded targets. -/
theorem V2' : V m c main_v2 = tgtPad (m ((c : Thread nD τ).loc main_arg4)) := V2 m c

/-- The place of a target in its group of eight rows, -/
theorem sub_apply (x4 : Vec Ideal S8x512 .i32) (r : Fin 8) (l : Fin 512) :
    k0_pay25 (F := Ideal) x4 (ix2 r l) = BitVec.ofNat 32 ((x4 (ix2 r l)).toNat % 8) := by
  pointwise [k0_pay25]
  have e : k0_pay24 (F := Ideal) x4 = x4 := shapeCast_id _ _
  rw [e]
  apply BitVec.eq_of_toNat_eq
  have h := (x4 (ix2 r l)).isLt
  rw [show IntOp.andi (x4 (ix2 r l)) 7#32 = x4 (ix2 r l) &&& 7#32 from rfl, BitVec.toNat_and, BitVec.toNat_ofNat, BitVec.toNat_ofNat,
    Nat.mod_eq_of_lt (show 7 < 2 ^ 32 by decide), Nat.mod_eq_of_lt (show (x4 (ix2 r l)).toNat % 8 < 2 ^ 32 by omega)]
  exact Nat.and_two_pow_sub_one_eq_mod (x4 (ix2 r l)).toNat 3

/-- and that group. -/
theorem grp_apply (x4 : Vec Ideal S8x512 .i32) (r : Fin 8) (l : Fin 512) (h : (x4 (ix2 r l)).toNat < 16000) :
    k0_pay26 (F := Ideal) x4 (ix2 r l) = BitVec.ofNat 32 ((x4 (ix2 r l)).toNat / 8) := by
  pointwise [k0_pay26]
  have e : k0_pay24 (F := Ideal) x4 = x4 := shapeCast_id _ _
  rw [e]
  apply BitVec.eq_of_toNat_eq
  have hm : (x4 (ix2 r l)).msb = false := by
    rw [BitVec.msb_eq_decide]; exact decide_eq_false (by omega)
  rw [show IntOp.shrsi ArithUnit.vector (x4 (ix2 r l)) 3#32 = (x4 (ix2 r l)).sshiftRight 3 from rfl,
    BitVec.toNat_sshiftRight_of_msb_false hm, BitVec.toNat_ofNat, Nat.shiftRight_eq_div_pow]
  exact (Nat.mod_eq_of_lt (by omega)).symm

/-- A word that is at least zero and below 16000, read as signed, is below 16000 read as unsigned. -/
theorem word_lt (x : BitVec 32) (h : IntOp.andi (IntOp.cmpi CmpIPredicate.sge x 0#32) (IntOp.cmpi CmpIPredicate.slt x 16000#32) = 1#1) :
    x.toNat < 16000 := by
  have h1 : (BitVec.sle 0#32 x && BitVec.slt x 16000#32) = true := by
    revert h
    show BitVec.ofBool (BitVec.sle 0#32 x) &&& BitVec.ofBool (BitVec.slt x 16000#32) = 1#1 → _
    cases BitVec.sle 0#32 x <;> cases BitVec.slt x 16000#32 <;> decide
  rw [Bool.and_eq_true, BitVec.sle_iff_toInt_le, BitVec.slt_iff_toInt_lt] at h1
  have e1 : (0#32).toInt = 0 := by decide
  have e2 : (16000#32).toInt = 16000 := by decide
  rw [e1, e2, BitVec.toInt_eq_toNat_cond] at h1
  have := x.isLt
  split at h1 <;> omega

/-- Every target the argument holds is a row of the vocabulary. -/
theorem pre_tgt (h : Pre_KernelIdeal_targets_in_range m) (i : S2x1280x7.Idx) :
    (m ((c : Thread nD τ).loc main_arg4) i).toNat < 16000 := by
  have := congrFun (h c) i
  unfold Cert.Pre_targets_in_range.fn at this
  pointwise [] at this
  exact word_lt _ this

/-- Every padded target is a row of the vocabulary. -/
theorem pre_pad (h : Pre_KernelIdeal_targets_in_range m) (r : Fin 8) (n : Fin 2560) : (V m c main_v2 (ix2 r n)).toNat < 16000 := by
  rw [V2']
  by_cases hr : r.val < 7
  · rw [tgtPad_lt _ r n hr]; exact pre_tgt m c h _
  · rw [tgtPad_pad _ r n hr]; decide

end Cert.Head

end
-- ==== Proof.Step.lean ====
/- What one grid point of the head computes, as terms of the blocks it reads and of the running values it carries. -/
module

public import proofs.«01_k».proof.Defs
public import proofs.«01_k».proof.Proof.Gen.KernelIdeal.Skeleton

@[expose] public section

set_option maxRecDepth 16384

noncomputable section

namespace Cert.Head

open Cert.KernelIdeal Cert.KernelIdeal.Gen Idealize.ShloMosaic Idealize.ShloMosaic.TcCoe

variable {F : FTy → Type} [FloatOps F] [Named F]

/-- The block of scaled logits, in units of log 2. -/
def zB (x0 : Vec F S512x16384 .fp8e4m3) (x1 : Vec F S640x16384 .fp8e4m3) (x2 : Vec F S640x1 .f32) (x3 : Vec F S1x512 .f32) : FVec F S640x512 .f32 := k0_pay12 x1 x0 x2 x3
/-- The new running maximum. -/
def mN (x0 : Vec F S512x16384 .fp8e4m3) (x1 : Vec F S640x16384 .fp8e4m3) (x2 : Vec F S640x1 .f32) (x3 : Vec F S1x512 .f32) (m : Vec F S1x512 .f32) : FVec F S1x512 .f32 := k0_pay23 (k0_pay13 x1 x0 x2 x3 m)
/-- The new sum of the exponentials. -/
def s0N (x0 : Vec F S512x16384 .fp8e4m3) (x1 : Vec F S640x16384 .fp8e4m3) (x2 : Vec F S640x1 .f32) (x3 : Vec F S1x512 .f32) (m s0 : Vec F S1x512 .f32) : FVec F S1x512 .f32 :=
  k0_pay20 (k0_pay15 x1 x0 x2 x3 m) (k0_pay19 x1 x0 x2 x3 m s0)
/-- The new first moment. -/
def s1N (x0 : Vec F S512x16384 .fp8e4m3) (x1 : Vec F S640x16384 .fp8e4m3) (x2 : Vec F S640x1 .f32) (x3 : Vec F S1x512 .f32) (m s0 s1 : Vec F S1x512 .f32) : FVec F S1x512 .f32 :=
  k0_pay21 (k0_pay16 x1 x0 x2 x3 m) (k0_pay17 x1 x0 x2 x3 m) (k0_pay18 x1 x0 x2 x3 m) s0 s1
/-- The new second moment. -/
def s2N (x0 : Vec F S512x16384 .fp8e4m3) (x1 : Vec F S640x16384 .fp8e4m3) (x2 : Vec F S640x1 .f32) (x3 : Vec F S1x512 .f32) (m s0 s1 s2 : Vec F S1x512 .f32) : FVec F S1x512 .f32 :=
  k0_pay22 (k0_pay14 x1 x0 x2 x3 m) (k0_pay16 x1 x0 x2 x3 m) (k0_pay17 x1 x0 x2 x3 m) (k0_pay18 x1 x0 x2 x3 m) s0 s1 s2

/-- Eight rows of the block start at every multiple of eight below 640. -/
theorem slices8 (g : Nat) (h : g < 80) : S640x512.Slices ![8 * g, 0] S8x512 := by
  refine ⟨rfl, fun a => ?_⟩; fin_cases a
  · show 8 * g + 8 ≤ 640; omega
  · show 0 + 512 ≤ 512; omega

/-- The row inside a group that is picked for each target. -/
def rowOf (v70 : IVec S8x512 32) : IVec S8x512 32 :=
  shapeCast S8x512 (shapeCast S8x512x1 (select (cmpi .slt v70 (broadcast S8x512 0#32)) (addi v70 (broadcast S8x512 8#32)) v70)
    shapeCasts_S8x512_S8x512x1) shapeCasts_S8x512x1_S8x512

/-- One group of eight rows: where the target's row group is `g` of this block, the target's logit is picked out. -/
def gstep (j : BitVec 32) (v15 : FVec F S640x512 .f32) (v70 v72 : IVec S8x512 32) (g : Nat) (h : g < 80)
    (zt : FVec F S8x512 .f32) : FVec F S8x512 .f32 :=
  select (cmpi .eq v72 (broadcast S8x512 (Scalar.addi (Scalar.muli j 80#32) (BitVec.ofNat 32 g))))
    (dynamicGather 0 (extractStridedSlice S8x512 ![8 * g, 0] v15 (slices8 g h)) (rowOf v70)) zt

/-- The running pick after the payload of part 3. -/
def c1 (j : BitVec 32) (v15 : FVec F S640x512 .f32) (v70 v72 : IVec S8x512 32) (zt : FVec F S8x512 .f32) : FVec F S8x512 .f32 :=
  k0_pay27 j v15 v70 v72 zt
/-- The running pick after the payload of part 4. -/
def c2 (j : BitVec 32) (v15 : FVec F S640x512 .f32) (v70 v72 : IVec S8x512 32) (zt : FVec F S8x512 .f32) : FVec F S8x512 .f32 :=
  k0_pay30 j v15 v70 v72 (c1 j v15 v70 v72 zt) (k0_pay28 v15) (k0_pay29 v70)
/-- The running pick after the payload of part 5. -/
def c3 (j : BitVec 32) (v15 : FVec F S640x512 .f32) (v70 v72 : IVec S8x512 32) (zt : FVec F S8x512 .f32) : FVec F S8x512 .f32 :=
  k0_pay33 j v15 v70 v72 (c2 j v15 v70 v72 zt) (k0_pay31 v15) (k0_pay32 v70)
/-- The running pick after the payload of part 6. -/
def c4 (j : BitVec 32) (v15 : FVec F S640x512 .f32) (v70 v72 : IVec S8x512 32) (zt : FVec F S8x512 .f32) : FVec F S8x512 .f32 :=
  k0_pay36 j v15 v70 v72 (c3 j v15 v70 v72 zt) (k0_pay34 v15 v70) (k0_pay35 j)
/-- The running pick after the payload of part 7. -/
def c5 (j : BitVec 32) (v15 : FVec F S640x512 .f32) (v70 v72 : IVec S8x512 32) (zt : FVec F S8x512 .f32) : FVec F S8x512 .f32 :=
  k0_pay39 j v15 v70 v72 (c4 j v15 v70 v72 zt) (k0_pay37 v15) (k0_pay38 v70)
/-- The running pick after the payload of part 8. -/
def c6 (j : BitVec 32) (v15 : FVec F S640x512 .f32) (v70 v72 : IVec S8x512 32) (zt : FVec F S8x512 .f32) : FVec F S8x512 .f32 :=
  k0_pay42 j v15 v70 v72 (c5 j v15 v70 v72 zt) (k0_pay40 v15) (k0_pay41 v70)
/-- The running pick after the payload of part 9. -/
def c7 (j : BitVec 32) (v15 : FVec F S640x512 .f32) (v70 v72 : IVec S8x512 32) (zt : FVec F S8x512 .f32) : FVec F S8x512 .f32 :=
  k0_pay45 j v15 v70 v72 (c6 j v15 v70 v72 zt) (k0_pay43 v15 v70) (k0_pay44 j)
/-- The running pick after the payload of part 10. -/
def c8 (j : BitVec 32) (v15 : FVec F S640x512 .f32) (v70 v72 : IVec S8x512 32) (zt : FVec F S8x512 .f32) : FVec F S8x512 .f32 :=
  k0_pay48 j v15 v70 v72 (c7 j v15 v70 v72 zt) (k0_pay46 v15) (k0_pay47 v70)
/-- The running pick after the payload of part 11. -/
def c9 (j : BitVec 32) (v15 : FVec F S640x512 .f32) (v70 v72 : IVec S8x512 32) (zt : FVec F S8x512 .f32) : FVec F S8x512 .f32 :=
  k0_pay51 j v15 v70 v72 (c8 j v15 v70 v72 zt) (k0_pay49 v15) (k0_pay50 v70)
/-- The running pick after the payload of part 12. -/
def c10 (j : BitVec 32) (v15 : FVec F S640x512 .f32) (v70 v72 : IVec S8x512 32) (zt : FVec F S8x512 .f32) : FVec F S8x512 .f32 :=
  k0_pay54 j v15 v70 v72 (c9 j v15 v70 v72 zt) (k0_pay52 v15 v70) (k0_pay53 j)
/-- The running pick after the payload of part 13. -/
def c11 (j : BitVec 32) (v15 : FVec F S640x512 .f32) (v70 v72 : IVec S8x512 32) (zt : FVec F S8x512 .f32) : FVec F S8x512 .f32 :=
  k0_pay57 j v15 v70 v72 (c10 j v15 v70 v72 zt) (k0_pay55 v15) (k0_pay56 v70)
/-- The running pick after the payload of part 14. -/
def c12 (j : BitVec 32) (v15 : FVec F S640x512 .f32) (v70 v72 : IVec S8x512 32) (zt : FVec F S8x512 .f32) : FVec F S8x512 .f32 :=
  k0_pay60 j v15 v70 v72 (c11 j v15 v70 v72 zt) (k0_pay58 v15) (k0_pay59 v70)
/-- The running pick after the payload of part 15. -/
def c13 (j : BitVec 32) (v15 : FVec F S640x512 .f32) (v70 v72 : IVec S8x512 32) (zt : FVec F S8x512 .f32) : FVec F S8x512 .f32 :=
  k0_pay63 j v15 v70 v72 (c12 j v15 v70 v72 zt) (k0_pay61 v15 v70) (k0_pay62 j)
/-- The running pick after the payload of part 16. -/
def c14 (j : BitVec 32) (v15 : FVec F S640x512 .f32) (v70 v72 : IVec S8x512 32) (zt : FVec F S8x512 .f32) : FVec F S8x512 .f32 :=
  k0_pay66 j v15 v70 v72 (c13 j v15 v70 v72 zt) (k0_pay64 v15) (k0_pay65 v70)
/-- The running pick after the payload of part 17. -/
def c15 (j : BitVec 32) (v15 : FVec F S640x512 .f32) (v70 v72 : IVec S8x512 32) (zt : FVec F S8x512 .f32) : FVec F S8x512 .f32 :=
  k0_pay69 j v15 v70 v72 (c14 j v15 v70 v72 zt) (k0_pay67 v15) (k0_pay68 v70)
/-- The running pick after the payload of part 18. -/
def c16 (j : BitVec 32) (v15 : FVec F S640x512 .f32) (v70 v72 : IVec S8x512 32) (zt : FVec F S8x512 .f32) : FVec F S8x512 .f32 :=
  k0_pay72 j v15 v70 v72 (c15 j v15 v70 v72 zt) (k0_pay70 v15 v70) (k0_pay71 j)
/-- The running pick after the payload of part 19. -/
def c17 (j : BitVec 32) (v15 : FVec F S640x512 .f32) (v70 v72 : IVec S8x512 32) (zt : FVec F S8x512 .f32) : FVec F S8x512 .f32 :=
  k0_pay75 j v15 v70 v72 (c16 j v15 v70 v72 zt) (k0_pay73 v15) (k0_pay74 v70)
/-- The running pick after the payload of part 20. -/
def c18 (j : BitVec 32) (v15 : FVec F S640x512 .f32) (v70 v72 : IVec S8x512 32) (zt : FVec F S8x512 .f32) : FVec F S8x512 .f32 :=
  k0_pay78 j v15 v70 v72 (c17 j v15 v70 v72 zt) (k0_pay76 v15) (k0_pay77 v70)
/-- The running pick after the payload of part 21. -/
def c19 (j : BitVec 32) (v15 : FVec F S640x512 .f32) (v70 v72 : IVec S8x512 32) (zt : FVec F S8x512 .f32) : FVec F S8x512 .f32 :=
  k0_pay81 j v15 v70 v72 (c18 j v15 v70 v72 zt) (k0_pay79 v15 v70) (k0_pay80 j)
/-- The running pick after the payload of part 22. -/
def c20 (j : BitVec 32) (v15 : FVec F S640x512 .f32) (v70 v72 : IVec S8x512 32) (zt : FVec F S8x512 .f32) : FVec F S8x512 .f32 :=
  k0_pay84 j v15 v70 v72 (c19 j v15 v70 v72 zt) (k0_pay82 v15) (k0_pay83 v70)
/-- The running pick after the payload of part 23. -/
def c21 (j : BitVec 32) (v15 : FVec F S640x512 .f32) (v70 v72 : IVec S8x512 32) (zt : FVec F S8x512 .f32) : FVec F S8x512 .f32 :=
  k0_pay87 j v15 v70 v72 (c20 j v15 v70 v72 zt) (k0_pay85 v15) (k0_pay86 v70)
/-- The running pick after the payload of part 24. -/
def c22 (j : BitVec 32) (v15 : FVec F S640x512 .f32) (v70 v72 : IVec S8x512 32) (zt : FVec F S8x512 .f32) : FVec F S8x512 .f32 :=
  k0_pay90 j v15 v70 v72 (c21 j v15 v70 v72 zt) (k0_pay88 v15 v70) (k0_pay89 j)
/-- The running pick after the payload of part 25. -/
def c23 (j : BitVec 32) (v15 : FVec F S640x512 .f32) (v70 v72 : IVec S8x512 32) (zt : FVec F S8x512 .f32) : FVec F S8x512 .f32 :=
  k0_pay93 j v15 v70 v72 (c22 j v15 v70 v72 zt) (k0_pay91 v15) (k0_pay92 v70)
/-- The running pick after the payload of part 26. -/
def c24 (j : BitVec 32) (v15 : FVec F S640x512 .f32) (v70 v72 : IVec S8x512 32) (zt : FVec F S8x512 .f32) : FVec F S8x512 .f32 :=
  k0_pay96 j v15 v70 v72 (c23 j v15 v70 v72 zt) (k0_pay94 v15) (k0_pay95 v70)
/-- The whole chain of picks over the block's eighty groups. -/
def ztN (j : BitVec 32) (v15 : FVec F S640x512 .f32) (v70 v72 : IVec S8x512 32) (zt : FVec F S8x512 .f32) : FVec F S8x512 .f32 :=
  k0_pay1 v72 (c24 j v15 v70 v72 zt) (k0_pay97 v15 v70) (k0_pay98 j)

theorem c1_eq (j : BitVec 32) (v15 : FVec F S640x512 .f32) (v70 v72 : IVec S8x512 32) (zt : FVec F S8x512 .f32) :
    c1 j v15 v70 v72 zt = gstep j v15 v70 v72 2 (by decide) (gstep j v15 v70 v72 1 (by decide) (gstep j v15 v70 v72 0 (by decide) zt)) := rfl
theorem c2_eq (j : BitVec 32) (v15 : FVec F S640x512 .f32) (v70 v72 : IVec S8x512 32) (zt : FVec F S8x512 .f32) :
    c2 j v15 v70 v72 zt = gstep j v15 v70 v72 5 (by decide) (gstep j v15 v70 v72 4 (by decide) (gstep j v15 v70 v72 3 (by decide) (c1 j v15 v70 v72 zt))) := rfl
theorem c3_eq (j : BitVec 32) (v15 : FVec F S640x512 .f32) (v70 v72 : IVec S8x512 32) (zt : FVec F S8x512 .f32) :
    c3 j v15 v70 v72 zt = gstep j v15 v70 v72 8 (by decide) (gstep j v15 v70 v72 7 (by decide) (gstep j v15 v70 v72 6 (by decide) (c2 j v15 v70 v72 zt))) := rfl
theorem c4_eq (j : BitVec 32) (v15 : FVec F S640x512 .f32) (v70 v72 : IVec S8x512 32) (zt : FVec F S8x512 .f32) :
    c4 j v15 v70 v72 zt = gstep j v15 v70 v72 12 (by decide) (gstep j v15 v70 v72 11 (by decide) (gstep j v15 v70 v72 10 (by decide) (gstep j v15 v70 v72 9 (by decide) (c3 j v15 v70 v72 zt)))) := rfl
theorem c5_eq (j : BitVec 32) (v15 : FVec F S640x512 .f32) (v70 v72 : IVec S8x512 32) (zt : FVec F S8x512 .f32) :
    c5 j v15 v70 v72 zt = gstep j v15 v70 v72 15 (by decide) (gstep j v15 v70 v72 14 (by decide) (gstep j v15 v70 v72 13 (by decide) (c4 j v15 v70 v72 zt))) := rfl
theorem c6_eq (j : BitVec 32) (v15 : FVec F S640x512 .f32) (v70 v72 : IVec S8x512 32) (zt : FVec F S8x512 .f32) :
    c6 j v15 v70 v72 zt = gstep j v15 v70 v72 18 (by decide) (gstep j v15 v70 v72 17 (by decide) (gstep j v15 v70 v72 16 (by decide) (c5 j v15 v70 v72 zt))) := rfl
theorem c7_eq (j : BitVec 32) (v15 : FVec F S640x512 .f32) (v70 v72 : IVec S8x512 32) (zt : FVec F S8x512 .f32) :
    c7 j v15 v70 v72 zt = gstep j v15 v70 v72 22 (by decide) (gstep j v15 v70 v72 21 (by decide) (gstep j v15 v70 v72 20 (by decide) (gstep j v15 v70 v72 19 (by decide) (c6 j v15 v70 v72 zt)))) := rfl
theorem c8_eq (j : BitVec 32) (v15 : FVec F S640x512 .f32) (v70 v72 : IVec S8x512 32) (zt : FVec F S8x512 .f32) :
    c8 j v15 v70 v72 zt = gstep j v15 v70 v72 25 (by decide) (gstep j v15 v70 v72 24 (by decide) (gstep j v15 v70 v72 23 (by decide) (c7 j v15 v70 v72 zt))) := rfl
theorem c9_eq (j : BitVec 32) (v15 : FVec F S640x512 .f32) (v70 v72 : IVec S8x512 32) (zt : FVec F S8x512 .f32) :
    c9 j v15 v70 v72 zt = gstep j v15 v70 v72 28 (by decide) (gstep j v15 v70 v72 27 (by decide) (gstep j v15 v70 v72 26 (by decide) (c8 j v15 v70 v72 zt))) := rfl
theorem c10_eq (j : BitVec 32) (v15 : FVec F S640x512 .f32) (v70 v72 : IVec S8x512 32) (zt : FVec F S8x512 .f32) :
    c10 j v15 v70 v72 zt = gstep j v15 v70 v72 32 (by decide) (gstep j v15 v70 v72 31 (by decide) (gstep j v15 v70 v72 30 (by decide) (gstep j v15 v70 v72 29 (by decide) (c9 j v15 v70 v72 zt)))) := rfl
theorem c11_eq (j : BitVec 32) (v15 : FVec F S640x512 .f32) (v70 v72 : IVec S8x512 32) (zt : FVec F S8x512 .f32) :
    c11 j v15 v70 v72 zt = gstep j v15 v70 v72 35 (by decide) (gstep j v15 v70 v72 34 (by decide) (gstep j v15 v70 v72 33 (by decide) (c10 j v15 v70 v72 zt))) := rfl
theorem c12_eq (j : BitVec 32) (v15 : FVec F S640x512 .f32) (v70 v72 : IVec S8x512 32) (zt : FVec F S8x512 .f32) :
    c12 j v15 v70 v72 zt = gstep j v15 v70 v72 38 (by decide) (gstep j v15 v70 v72 37 (by decide) (gstep j v15 v70 v72 36 (by decide) (c11 j v15 v70 v72 zt))) := rfl
theorem c13_eq (j : BitVec 32) (v15 : FVec F S640x512 .f32) (v70 v72 : IVec S8x512 32) (zt : FVec F S8x512 .f32) :
    c13 j v15 v70 v72 zt = gstep j v15 v70 v72 42 (by decide) (gstep j v15 v70 v72 41 (by decide) (gstep j v15 v70 v72 40 (by decide) (gstep j v15 v70 v72 39 (by decide) (c12 j v15 v70 v72 zt)))) := rfl
theorem c14_eq (j : BitVec 32) (v15 : FVec F S640x512 .f32) (v70 v72 : IVec S8x512 32) (zt : FVec F S8x512 .f32) :
    c14 j v15 v70 v72 zt = gstep j v15 v70 v72 45 (by decide) (gstep j v15 v70 v72 44 (by decide) (gstep j v15 v70 v72 43 (by decide) (c13 j v15 v70 v72 zt))) := rfl
theorem c15_eq (j : BitVec 32) (v15 : FVec F S640x512 .f32) (v70 v72 : IVec S8x512 32) (zt : FVec F S8x512 .f32) :
    c15 j v15 v70 v72 zt = gstep j v15 v70 v72 48 (by decide) (gstep j v15 v70 v72 47 (by decide) (gstep j v15 v70 v72 46 (by decide) (c14 j v15 v70 v72 zt))) := rfl
theorem c16_eq (j : BitVec 32) (v15 : FVec F S640x512 .f32) (v70 v72 : IVec S8x512 32) (zt : FVec F S8x512 .f32) :
    c16 j v15 v70 v72 zt = gstep j v15 v70 v72 52 (by decide) (gstep j v15 v70 v72 51 (by decide) (gstep j v15 v70 v72 50 (by decide) (gstep j v15 v70 v72 49 (by decide) (c15 j v15 v70 v72 zt)))) := rfl
theorem c17_eq (j : BitVec 32) (v15 : FVec F S640x512 .f32) (v70 v72 : IVec S8x512 32) (zt : FVec F S8x512 .f32) :
    c17 j v15 v70 v72 zt = gstep j v15 v70 v72 55 (by decide) (gstep j v15 v70 v72 54 (by decide) (gstep j v15 v70 v72 53 (by decide) (c16 j v15 v70 v72 zt))) := rfl
theorem c18_eq (j : BitVec 32) (v15 : FVec F S640x512 .f32) (v70 v72 : IVec S8x512 32) (zt : FVec F S8x512 .f32) :
    c18 j v15 v70 v72 zt = gstep j v15 v70 v72 58 (by decide) (gstep j v15 v70 v72 57 (by decide) (gstep j v15 v70 v72 56 (by decide) (c17 j v15 v70 v72 zt))) := rfl
theorem c19_eq (j : BitVec 32) (v15 : FVec F S640x512 .f32) (v70 v72 : IVec S8x512 32) (zt : FVec F S8x512 .f32) :
    c19 j v15 v70 v72 zt = gstep j v15 v70 v72 62 (by decide) (gstep j v15 v70 v72 61 (by decide) (gstep j v15 v70 v72 60 (by decide) (gstep j v15 v70 v72 59 (by decide) (c18 j v15 v70 v72 zt)))) := rfl
theorem c20_eq (j : BitVec 32) (v15 : FVec F S640x512 .f32) (v70 v72 : IVec S8x512 32) (zt : FVec F S8x512 .f32) :
    c20 j v15 v70 v72 zt = gstep j v15 v70 v72 65 (by decide) (gstep j v15 v70 v72 64 (by decide) (gstep j v15 v70 v72 63 (by decide) (c19 j v15 v70 v72 zt))) := rfl
theorem c21_eq (j : BitVec 32) (v15 : FVec F S640x512 .f32) (v70 v72 : IVec S8x512 32) (zt : FVec F S8x512 .f32) :
    c21 j v15 v70 v72 zt = gstep j v15 v70 v72 68 (by decide) (gstep j v15 v70 v72 67 (by decide) (gstep j v15 v70 v72 66 (by decide) (c20 j v15 v70 v72 zt))) := rfl
theorem c22_eq (j : BitVec 32) (v15 : FVec F S640x512 .f32) (v70 v72 : IVec S8x512 32) (zt : FVec F S8x512 .f32) :
    c22 j v15 v70 v72 zt = gstep j v15 v70 v72 72 (by decide) (gstep j v15 v70 v72 71 (by decide) (gstep j v15 v70 v72 70 (by decide) (gstep j v15 v70 v72 69 (by decide) (c21 j v15 v70 v72 zt)))) := rfl
theorem c23_eq (j : BitVec 32) (v15 : FVec F S640x512 .f32) (v70 v72 : IVec S8x512 32) (zt : FVec F S8x512 .f32) :
    c23 j v15 v70 v72 zt = gstep j v15 v70 v72 75 (by decide) (gstep j v15 v70 v72 74 (by decide) (gstep j v15 v70 v72 73 (by decide) (c22 j v15 v70 v72 zt))) := rfl
theorem c24_eq (j : BitVec 32) (v15 : FVec F S640x512 .f32) (v70 v72 : IVec S8x512 32) (zt : FVec F S8x512 .f32) :
    c24 j v15 v70 v72 zt = gstep j v15 v70 v72 78 (by decide) (gstep j v15 v70 v72 77 (by decide) (gstep j v15 v70 v72 76 (by decide) (c23 j v15 v70 v72 zt))) := rfl
theorem ztN_eq (j : BitVec 32) (v15 : FVec F S640x512 .f32) (v70 v72 : IVec S8x512 32) (zt : FVec F S8x512 .f32) :
    ztN j v15 v70 v72 zt = shapeCast S8x512 (gstep j v15 v70 v72 79 (by decide) (c24 j v15 v70 v72 zt)) shapeCasts_S8x512_S8x512 := rfl

end Cert.Head

end
-- ==== Proof.Cases.lean ====
/- What the head's three kinds of grid point (first, middle, last vocabulary block of a token block) leave in the
   running values and, at the last block, in the three outputs: the pieces each kind's run stores, read back. -/
module

public import proofs.«01_k».proof.Defs
public import proofs.«01_k».proof.Proof.Gen.KernelIdeal.Frame
public import proofs.«01_k».proof.Proof.Step
public import Idealize.ShloMosaic.Lib.Pipeline.Value
public import Idealize.ShloMosaic.Lib.Tactic

@[expose] public section

set_option maxRecDepth 16384

noncomputable section

namespace Cert.Head

open Cert.KernelIdeal Cert.KernelIdeal.Gen Idealize.ShloMosaic Idealize.ShloMosaic.TcCoe Idealize.SL.Sem
open Idealize.ShloMosaic.Tactic

variable {F : FTy → Type} [FloatOps F] [Named F]

theorem hz : (![0, 0] : Fin 2 → Nat) = fun _ => 0 := funext fun a => by fin_cases a <;> rfl

/-- The picks of one block, from the block's inputs and the targets. -/
def ztStep (j : BitVec 32)  (x0 : Vec F S512x16384 .fp8e4m3) (x1 : Vec F S640x16384 .fp8e4m3) (x2 : Vec F S640x1 .f32) (x3 : Vec F S1x512 .f32) (x4 : Vec F S8x512 .i32) (zt : Vec F S8x512 .f32) : FVec F S8x512 .f32 :=
  ztN j (zB x0 x1 x2 x3) (k0_pay25 x4) (k0_pay26 x4) zt

section
variable (c : Dev nD) (i : grid0.Coords) (arg2 : Memref sig .tc .vmem S512x16384 .fp8e4m3) (harg2 : arg2.IsWhole) (arg3 : Memref sig .tc .vmem S640x16384 .fp8e4m3) (harg3 : arg3.IsWhole) (arg4 : Memref sig .tc .vmem S640x1 .f32) (harg4 : arg4.IsWhole) (arg5 : Memref sig .tc .vmem S1x512 .f32) (harg5 : arg5.IsWhole) (arg6 : Memref sig .tc .vmem S8x512 .i32) (harg6 : arg6.IsWhole) (arg7 : Memref sig .tc .vmem S1x512 .f32) (harg7 : arg7.IsWhole) (arg8 : Memref sig .tc .vmem S1x512 .f32) (harg8 : arg8.IsWhole) (arg9 : Memref sig .tc .vmem S8x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S8x512 .f32) (harg14 : arg14.IsWhole)
  (x0 : Vec F S512x16384 .fp8e4m3) (x1 : Vec F S640x16384 .fp8e4m3) (x2 : Vec F S640x1 .f32) (x3 : Vec F S1x512 .f32) (x4 : Vec F S8x512 .i32)
  (xs0 xs1 xs2 xs3 : Vec F S1x512 .f32) (xs4 : Vec F S8x512 .f32)

/-- The first block leaves the running maximum at its step's value. -/
theorem sout0_A_0_eq (hc0 : cond0_0 i) (hc1 : ¬cond0_1 i) :
    sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 = mN x0 x1 x2 x3 k0_pay7 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4)]
  unfold kernelRun0_A; dsimp only
  sl_unfold_words
  rw [View.canon_cons_unit_zero (S := S1x512) hz]
  simp only [View.readCov_unit_zero (S := S1x512) _ hz, View.readCov_unit_zero (S := S8x512) _ hz, View.readAt_eq_ld, harg2.read_unread, harg3.read_unread, harg4.read_unread, harg5.read_unread, harg6.read_unread,
    View.ld_unit_zero (S := S512x16384) hz, View.ld_unit_zero (S := S640x16384) hz, View.ld_unit_zero (S := S640x1) hz, View.ld_unit_zero (S := S1x512) hz, View.ld_unit_zero (S := S8x512) hz]
  rfl

/-- The first block leaves the running sum at its step's value. -/
theorem sout0_A_1_eq (hc0 : cond0_0 i) (hc1 : ¬cond0_1 i) :
    sout0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 = s0N x0 x1 x2 x3 k0_pay7 k0_pay8 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4)]
  unfold kernelRun0_A; dsimp only
  sl_unfold_words
  rw [View.canon_cons_unit_zero (S := S1x512) hz]
  simp only [View.readCov_unit_zero (S := S1x512) _ hz, View.readCov_unit_zero (S := S8x512) _ hz, View.readAt_eq_ld, harg2.read_unread, harg3.read_unread, harg4.read_unread, harg5.read_unread, harg6.read_unread,
    View.ld_unit_zero (S := S512x16384) hz, View.ld_unit_zero (S := S640x16384) hz, View.ld_unit_zero (S := S640x1) hz, View.ld_unit_zero (S := S1x512) hz, View.ld_unit_zero (S := S8x512) hz]
  rfl

/-- The first block leaves the first moment at its step's value. -/
theorem sout0_A_2_eq (hc0 : cond0_0 i) (hc1 : ¬cond0_1 i) :
    sout0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 = s1N x0 x1 x2 x3 k0_pay7 k0_pay8 k0_pay9 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4)]
  unfold kernelRun0_A; dsimp only
  sl_unfold_words
  rw [View.canon_cons_unit_zero (S := S1x512) hz]
  simp only [View.readCov_unit_zero (S := S1x512) _ hz, View.readCov_unit_zero (S := S8x512) _ hz, View.readAt_eq_ld, harg2.read_unread, harg3.read_unread, harg4.read_unread, harg5.read_unread, harg6.read_unread,
    View.ld_unit_zero (S := S512x16384) hz, View.ld_unit_zero (S := S640x16384) hz, View.ld_unit_zero (S := S640x1) hz, View.ld_unit_zero (S := S1x512) hz, View.ld_unit_zero (S := S8x512) hz]
  rfl

/-- The first block leaves the second moment at its step's value. -/
theorem sout0_A_3_eq (hc0 : cond0_0 i) (hc1 : ¬cond0_1 i) :
    sout0_A_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 = s2N x0 x1 x2 x3 k0_pay7 k0_pay8 k0_pay9 k0_pay10 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4)]
  unfold kernelRun0_A; dsimp only
  sl_unfold_words
  rw [View.canon_cons_unit_zero (S := S1x512) hz]
  simp only [View.readCov_unit_zero (S := S1x512) _ hz, View.readCov_unit_zero (S := S8x512) _ hz, View.readAt_eq_ld, harg2.read_unread, harg3.read_unread, harg4.read_unread, harg5.read_unread, harg6.read_unread,
    View.ld_unit_zero (S := S512x16384) hz, View.ld_unit_zero (S := S640x16384) hz, View.ld_unit_zero (S := S640x1) hz, View.ld_unit_zero (S := S1x512) hz, View.ld_unit_zero (S := S8x512) hz]
  rfl

/-- The first block leaves the picked logits at its step's value. -/
theorem sout0_A_4_eq (hc0 : cond0_0 i) (hc1 : ¬cond0_1 i) :
    sout0_A_4 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 = ztStep (BitVec.ofNat 32 (i 1).val) x0 x1 x2 x3 x4 k0_pay11 := by
  unfold sout0_A_4
  rw [View.read_writes_eq_canon _ _ _ (scover0_A_4 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4)]
  unfold kernelRun0_A; dsimp only
  sl_unfold_words
  rw [View.canon_cons_unit_zero (S := S8x512) hz]
  simp only [View.readCov_unit_zero (S := S1x512) _ hz, View.readCov_unit_zero (S := S8x512) _ hz, View.readAt_eq_ld, harg2.read_unread, harg3.read_unread, harg4.read_unread, harg5.read_unread, harg6.read_unread,
    View.ld_unit_zero (S := S512x16384) hz, View.ld_unit_zero (S := S640x16384) hz, View.ld_unit_zero (S := S640x1) hz, View.ld_unit_zero (S := S1x512) hz, View.ld_unit_zero (S := S8x512) hz]
  rfl

/-- The middle block leaves the running maximum at its step's value. -/
theorem sout0_B_0_eq (hc0 : ¬cond0_0 i) (hc1 : ¬cond0_1 i) :
    sout0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 = mN x0 x1 x2 x3 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4)]
  unfold kernelRun0_B; dsimp only
  sl_unfold_words
  rw [View.canon_unit_zero (S := S1x512) hz]
  simp only [View.readCov_unit_zero (S := S1x512) _ hz, View.readCov_unit_zero (S := S8x512) _ hz, View.readAt_eq_ld, harg2.read_unread, harg3.read_unread, harg4.read_unread, harg5.read_unread, harg6.read_unread, harg10.read_unread, harg11.read_unread, harg12.read_unread, harg13.read_unread, harg14.read_unread,
    View.ld_unit_zero (S := S512x16384) hz, View.ld_unit_zero (S := S640x16384) hz, View.ld_unit_zero (S := S640x1) hz, View.ld_unit_zero (S := S1x512) hz, View.ld_unit_zero (S := S8x512) hz]
  rfl

/-- The middle block leaves the running sum at its step's value. -/
theorem sout0_B_1_eq (hc0 : ¬cond0_0 i) (hc1 : ¬cond0_1 i) :
    sout0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 = s0N x0 x1 x2 x3 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4)]
  unfold kernelRun0_B; dsimp only
  sl_unfold_words
  rw [View.canon_unit_zero (S := S1x512) hz]
  simp only [View.readCov_unit_zero (S := S1x512) _ hz, View.readCov_unit_zero (S := S8x512) _ hz, View.readAt_eq_ld, harg2.read_unread, harg3.read_unread, harg4.read_unread, harg5.read_unread, harg6.read_unread, harg10.read_unread, harg11.read_unread, harg12.read_unread, harg13.read_unread, harg14.read_unread,
    View.ld_unit_zero (S := S512x16384) hz, View.ld_unit_zero (S := S640x16384) hz, View.ld_unit_zero (S := S640x1) hz, View.ld_unit_zero (S := S1x512) hz, View.ld_unit_zero (S := S8x512) hz]
  rfl

/-- The middle block leaves the first moment at its step's value. -/
theorem sout0_B_2_eq (hc0 : ¬cond0_0 i) (hc1 : ¬cond0_1 i) :
    sout0_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 = s1N x0 x1 x2 x3 xs0 xs1 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4)]
  unfold kernelRun0_B; dsimp only
  sl_unfold_words
  rw [View.canon_unit_zero (S := S1x512) hz]
  simp only [View.readCov_unit_zero (S := S1x512) _ hz, View.readCov_unit_zero (S := S8x512) _ hz, View.readAt_eq_ld, harg2.read_unread, harg3.read_unread, harg4.read_unread, harg5.read_unread, harg6.read_unread, harg10.read_unread, harg11.read_unread, harg12.read_unread, harg13.read_unread, harg14.read_unread,
    View.ld_unit_zero (S := S512x16384) hz, View.ld_unit_zero (S := S640x16384) hz, View.ld_unit_zero (S := S640x1) hz, View.ld_unit_zero (S := S1x512) hz, View.ld_unit_zero (S := S8x512) hz]
  rfl

/-- The middle block leaves the second moment at its step's value. -/
theorem sout0_B_3_eq (hc0 : ¬cond0_0 i) (hc1 : ¬cond0_1 i) :
    sout0_B_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 = s2N x0 x1 x2 x3 xs0 xs1 xs2 xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4)]
  unfold kernelRun0_B; dsimp only
  sl_unfold_words
  rw [View.canon_unit_zero (S := S1x512) hz]
  simp only [View.readCov_unit_zero (S := S1x512) _ hz, View.readCov_unit_zero (S := S8x512) _ hz, View.readAt_eq_ld, harg2.read_unread, harg3.read_unread, harg4.read_unread, harg5.read_unread, harg6.read_unread, harg10.read_unread, harg11.read_unread, harg12.read_unread, harg13.read_unread, harg14.read_unread,
    View.ld_unit_zero (S := S512x16384) hz, View.ld_unit_zero (S := S640x16384) hz, View.ld_unit_zero (S := S640x1) hz, View.ld_unit_zero (S := S1x512) hz, View.ld_unit_zero (S := S8x512) hz]
  rfl

/-- The middle block leaves the picked logits at its step's value. -/
theorem sout0_B_4_eq (hc0 : ¬cond0_0 i) (hc1 : ¬cond0_1 i) :
    sout0_B_4 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 = ztStep (BitVec.ofNat 32 (i 1).val) x0 x1 x2 x3 x4 xs4 := by
  unfold sout0_B_4
  rw [View.read_writes_eq_canon _ _ _ (scover0_B_4 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4)]
  unfold kernelRun0_B; dsimp only
  sl_unfold_words
  rw [View.canon_unit_zero (S := S8x512) hz]
  simp only [View.readCov_unit_zero (S := S1x512) _ hz, View.readCov_unit_zero (S := S8x512) _ hz, View.readAt_eq_ld, harg2.read_unread, harg3.read_unread, harg4.read_unread, harg5.read_unread, harg6.read_unread, harg10.read_unread, harg11.read_unread, harg12.read_unread, harg13.read_unread, harg14.read_unread,
    View.ld_unit_zero (S := S512x16384) hz, View.ld_unit_zero (S := S640x16384) hz, View.ld_unit_zero (S := S640x1) hz, View.ld_unit_zero (S := S1x512) hz, View.ld_unit_zero (S := S8x512) hz]
  rfl

/-- The last block leaves the running maximum at its step's value. -/
theorem sout0_C_0_eq (hc0 : ¬cond0_0 i) (hc1 : cond0_1 i) :
    sout0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 = mN x0 x1 x2 x3 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4)]
  unfold kernelRun0_C; dsimp only
  sl_unfold_words
  rw [View.canon_unit_zero (S := S1x512) hz]
  simp only [View.readCov_unit_zero (S := S1x512) _ hz, View.readCov_unit_zero (S := S8x512) _ hz, View.readAt_eq_ld, harg2.read_unread, harg3.read_unread, harg4.read_unread, harg5.read_unread, harg6.read_unread, harg10.read_unread, harg11.read_unread, harg12.read_unread, harg13.read_unread, harg14.read_unread,
    View.ld_unit_zero (S := S512x16384) hz, View.ld_unit_zero (S := S640x16384) hz, View.ld_unit_zero (S := S640x1) hz, View.ld_unit_zero (S := S1x512) hz, View.ld_unit_zero (S := S8x512) hz]
  rfl

/-- The last block leaves the running sum at its step's value. -/
theorem sout0_C_1_eq (hc0 : ¬cond0_0 i) (hc1 : cond0_1 i) :
    sout0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 = s0N x0 x1 x2 x3 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4)]
  unfold kernelRun0_C; dsimp only
  sl_unfold_words
  rw [View.canon_unit_zero (S := S1x512) hz]
  simp only [View.readCov_unit_zero (S := S1x512) _ hz, View.readCov_unit_zero (S := S8x512) _ hz, View.readAt_eq_ld, harg2.read_unread, harg3.read_unread, harg4.read_unread, harg5.read_unread, harg6.read_unread, harg10.read_unread, harg11.read_unread, harg12.read_unread, harg13.read_unread, harg14.read_unread,
    View.ld_unit_zero (S := S512x16384) hz, View.ld_unit_zero (S := S640x16384) hz, View.ld_unit_zero (S := S640x1) hz, View.ld_unit_zero (S := S1x512) hz, View.ld_unit_zero (S := S8x512) hz]
  rfl

/-- The last block leaves the first moment at its step's value. -/
theorem sout0_C_2_eq (hc0 : ¬cond0_0 i) (hc1 : cond0_1 i) :
    sout0_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 = s1N x0 x1 x2 x3 xs0 xs1 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4)]
  unfold kernelRun0_C; dsimp only
  sl_unfold_words
  rw [View.canon_unit_zero (S := S1x512) hz]
  simp only [View.readCov_unit_zero (S := S1x512) _ hz, View.readCov_unit_zero (S := S8x512) _ hz, View.readAt_eq_ld, harg2.read_unread, harg3.read_unread, harg4.read_unread, harg5.read_unread, harg6.read_unread, harg10.read_unread, harg11.read_unread, harg12.read_unread, harg13.read_unread, harg14.read_unread,
    View.ld_unit_zero (S := S512x16384) hz, View.ld_unit_zero (S := S640x16384) hz, View.ld_unit_zero (S := S640x1) hz, View.ld_unit_zero (S := S1x512) hz, View.ld_unit_zero (S := S8x512) hz]
  rfl

/-- The last block leaves the second moment at its step's value. -/
theorem sout0_C_3_eq (hc0 : ¬cond0_0 i) (hc1 : cond0_1 i) :
    sout0_C_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 = s2N x0 x1 x2 x3 xs0 xs1 xs2 xs3 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4)]
  unfold kernelRun0_C; dsimp only
  sl_unfold_words
  rw [View.canon_unit_zero (S := S1x512) hz]
  simp only [View.readCov_unit_zero (S := S1x512) _ hz, View.readCov_unit_zero (S := S8x512) _ hz, View.readAt_eq_ld, harg2.read_unread, harg3.read_unread, harg4.read_unread, harg5.read_unread, harg6.read_unread, harg10.read_unread, harg11.read_unread, harg12.read_unread, harg13.read_unread, harg14.read_unread,
    View.ld_unit_zero (S := S512x16384) hz, View.ld_unit_zero (S := S640x16384) hz, View.ld_unit_zero (S := S640x1) hz, View.ld_unit_zero (S := S1x512) hz, View.ld_unit_zero (S := S8x512) hz]
  rfl

/-- The last block leaves the picked logits at its step's value. -/
theorem sout0_C_4_eq (hc0 : ¬cond0_0 i) (hc1 : cond0_1 i) :
    sout0_C_4 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 = ztStep (BitVec.ofNat 32 (i 1).val) x0 x1 x2 x3 x4 xs4 := by
  unfold sout0_C_4
  rw [View.read_writes_eq_canon _ _ _ (scover0_C_4 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4)]
  unfold kernelRun0_C; dsimp only
  sl_unfold_words
  rw [View.canon_unit_zero (S := S8x512) hz]
  simp only [View.readCov_unit_zero (S := S1x512) _ hz, View.readCov_unit_zero (S := S8x512) _ hz, View.readAt_eq_ld, harg2.read_unread, harg3.read_unread, harg4.read_unread, harg5.read_unread, harg6.read_unread, harg10.read_unread, harg11.read_unread, harg12.read_unread, harg13.read_unread, harg14.read_unread,
    View.ld_unit_zero (S := S512x16384) hz, View.ld_unit_zero (S := S640x16384) hz, View.ld_unit_zero (S := S640x1) hz, View.ld_unit_zero (S := S1x512) hz, View.ld_unit_zero (S := S8x512) hz]
  rfl

/-- The last block leaves the entropies at its step's value. -/
theorem out0_C_5_eq (hc0 : ¬cond0_0 i) (hc1 : cond0_1 i) :
    out0_C_5 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 = k0_pay4 (s0N x0 x1 x2 x3 xs0 xs1) (s1N x0 x1 x2 x3 xs0 xs1 xs2) := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4)]
  unfold kernelRun0_C; dsimp only
  sl_unfold_words
  rw [View.canon_unit_zero (S := S1x512) hz]
  simp only [View.readCov_unit_zero (S := S1x512) _ hz, View.readCov_unit_zero (S := S8x512) _ hz, View.readAt_eq_ld, harg2.read_unread, harg3.read_unread, harg4.read_unread, harg5.read_unread, harg6.read_unread, harg10.read_unread, harg11.read_unread, harg12.read_unread, harg13.read_unread, harg14.read_unread,
    View.ld_unit_zero (S := S512x16384) hz, View.ld_unit_zero (S := S640x16384) hz, View.ld_unit_zero (S := S640x1) hz, View.ld_unit_zero (S := S1x512) hz, View.ld_unit_zero (S := S8x512) hz]
  rfl

/-- The last block leaves the variances at its step's value. -/
theorem out0_C_6_eq (hc0 : ¬cond0_0 i) (hc1 : cond0_1 i) :
    out0_C_6 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 = k0_pay5 (s0N x0 x1 x2 x3 xs0 xs1) (s1N x0 x1 x2 x3 xs0 xs1 xs2) (s2N x0 x1 x2 x3 xs0 xs1 xs2 xs3) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4)]
  unfold kernelRun0_C; dsimp only
  sl_unfold_words
  rw [View.canon_unit_zero (S := S1x512) hz]
  simp only [View.readCov_unit_zero (S := S1x512) _ hz, View.readCov_unit_zero (S := S8x512) _ hz, View.readAt_eq_ld, harg2.read_unread, harg3.read_unread, harg4.read_unread, harg5.read_unread, harg6.read_unread, harg10.read_unread, harg11.read_unread, harg12.read_unread, harg13.read_unread, harg14.read_unread,
    View.ld_unit_zero (S := S512x16384) hz, View.ld_unit_zero (S := S640x16384) hz, View.ld_unit_zero (S := S640x1) hz, View.ld_unit_zero (S := S1x512) hz, View.ld_unit_zero (S := S8x512) hz]
  rfl

/-- The last block leaves the log probabilities at its step's value. -/
theorem out0_C_7_eq (hc0 : ¬cond0_0 i) (hc1 : cond0_1 i) :
    out0_C_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 = k0_pay6 (s0N x0 x1 x2 x3 xs0 xs1) (ztStep (BitVec.ofNat 32 (i 1).val) x0 x1 x2 x3 x4 xs4) (mN x0 x1 x2 x3 xs0) := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4)]
  unfold kernelRun0_C; dsimp only
  sl_unfold_words
  rw [View.canon_unit_zero (S := S8x512) hz]
  simp only [View.readCov_unit_zero (S := S1x512) _ hz, View.readCov_unit_zero (S := S8x512) _ hz, View.readAt_eq_ld, harg2.read_unread, harg3.read_unread, harg4.read_unread, harg5.read_unread, harg6.read_unread, harg10.read_unread, harg11.read_unread, harg12.read_unread, harg13.read_unread, harg14.read_unread,
    View.ld_unit_zero (S := S512x16384) hz, View.ld_unit_zero (S := S640x16384) hz, View.ld_unit_zero (S := S640x1) hz, View.ld_unit_zero (S := S1x512) hz, View.ld_unit_zero (S := S8x512) hz]
  rfl

end

end Cert.Head

end
-- ==== Proof.Gather.lean ====
/- The eighty compare-and-pick steps of one block leave, for every target, its own logit once its block has come. -/
module

public import proofs.«01_k».proof.Defs
public import proofs.«01_k».proof.Proof.Step
public import proofs.«01_k».proof.Proof.Cases
public import Idealize.ShloMosaic.Lib.Pointwise

@[expose] public section

set_option maxRecDepth 16384

noncomputable section

namespace Cert.Head

open Cert.KernelIdeal Cert.KernelIdeal.Gen Idealize.ShloMosaic Idealize.ShloMosaic.TcCoe

/-- The column of a block that holds vocabulary row `T` modulo the block. -/
def pickAt (v15 : FVec Ideal S640x512 .f32) (T : Nat) (l : Fin 512) : EReal :=
  v15 (ix2 (⟨T % 640, Nat.mod_lt _ (by decide)⟩ : Fin 640) l)

/-- After `n` groups of block `J`: picked if the target's group is among them, untouched otherwise. -/
def Picked (J T n : Nat) (v15 : FVec Ideal S640x512 .f32) (l : Fin 512) (z0 z : EReal) : Prop :=
  z = if 80 * J ≤ T / 8 ∧ T / 8 < 80 * J + n then pickAt v15 T l else z0

/-- The index word of the in-group row: it is nonnegative, so it is taken as it is. -/
theorem rowOf_apply (v70 : IVec S8x512 32) (T : Nat) (i : S8x512.Idx) (h : v70 i = BitVec.ofNat 32 (T % 8)) :
    rowOf v70 i = BitVec.ofNat 32 (T % 8) := by
  unfold rowOf
  rw [shapeCast_comp, shapeCast_id]
  have h8 : T % 8 < 8 := Nat.mod_lt _ (by decide)
  show Scalar.select (IntOp.cmpi .slt (v70 i) 0#32) _ (v70 i) = _
  rw [h]
  generalize T % 8 = k at h8
  have : IntOp.cmpi .slt (BitVec.ofNat 32 k) 0#32 = 0#1 := by
    interval_cases k <;> rfl
  rw [this]; rfl

/-- The word of group `g` of block `J`. -/
theorem groupWord (J g : Nat) :
    Scalar.addi (Scalar.muli (BitVec.ofNat 32 J) 80#32) (BitVec.ofNat 32 g) = BitVec.ofNat 32 (80 * J + g) := by
  show BitVec.ofNat 32 J * 80#32 + BitVec.ofNat 32 g = _
  rw [← BitVec.ofNat_mul, ← BitVec.ofNat_add, Nat.mul_comm]

/-- Two words below 2^32 are equal when their numbers are. -/
theorem ofNat_beq (a b : Nat) (ha : a < 2 ^ 32) (hb : b < 2 ^ 32) :
    IntOp.cmpi .eq (BitVec.ofNat 32 a) (BitVec.ofNat 32 b) = BitVec.ofBool (decide (a = b)) := by
  show BitVec.ofBool (BitVec.ofNat 32 a == BitVec.ofNat 32 b) = _
  congr 1
  by_cases h : a = b
  · subst h; simp
  · have : BitVec.ofNat 32 a ≠ BitVec.ofNat 32 b := by
      intro e
      have := congrArg BitVec.toNat e
      rw [BitVec.toNat_ofNat, BitVec.toNat_ofNat, Nat.mod_eq_of_lt ha, Nat.mod_eq_of_lt hb] at this
      exact h this
    simp [h, this]

/-- One group's step carries the picked state to one more group. -/
theorem Picked.step (J T g : Nat) (hJ : J < 25) (hT : T < 16000) (hg : g < 80) (v15 : FVec Ideal S640x512 .f32)
    (v70 v72 : IVec S8x512 32) (r : Fin 8) (l : Fin 512) (h70 : v70 (ix2 r l) = BitVec.ofNat 32 (T % 8))
    (h72 : v72 (ix2 r l) = BitVec.ofNat 32 (T / 8)) (z0 : EReal) (zt : FVec Ideal S8x512 .f32)
    (h : Picked J T g v15 l z0 (zt (ix2 r l))) :
    Picked J T (g + 1) v15 l z0 (gstep (F := Ideal) (BitVec.ofNat 32 J) v15 v70 v72 g hg zt (ix2 r l)) := by
  have e : gstep (F := Ideal) (BitVec.ofNat 32 J) v15 v70 v72 g hg zt (ix2 r l)
      = if T / 8 = 80 * J + g then v15 (ix2 (⟨8 * g + T % 8, by omega⟩ : Fin 640) l) else zt (ix2 r l) := by
    show Scalar.select (IntOp.cmpi .eq (v72 (ix2 r l)) (Scalar.addi (Scalar.muli (BitVec.ofNat 32 J) 80#32) (BitVec.ofNat 32 g))) _ _ = _
    rw [h72, groupWord, ofNat_beq _ _ (by omega) (by omega)]
    by_cases hc : T / 8 = 80 * J + g
    · simp only [hc, decide_true, if_true]
      show v15 _ = v15 _
      congr 1
      funext a; fin_cases a
      · apply Fin.ext
        show 8 * g + (rowOf v70 (ix2 r l)).toNat % 8 = 8 * g + T % 8
        rw [rowOf_apply v70 T _ h70, BitVec.toNat_ofNat]; omega
      · apply Fin.ext
        show 0 + l.val = l.val
        omega
    · simp only [hc, decide_false, if_false]
      rfl
  unfold Picked at h ⊢
  rw [e]
  by_cases hc : T / 8 = 80 * J + g
  · rw [if_pos hc, if_pos ⟨by omega, by omega⟩]
    unfold pickAt
    exact congrArg v15 (congrArg (fun x => ix2 x l) (Fin.ext (show 8 * g + T % 8 = T % 640 by omega)))
  · rw [if_neg hc, h]
    by_cases h1 : 80 * J ≤ T / 8 ∧ T / 8 < 80 * J + g
    · rw [if_pos h1, if_pos ⟨h1.1, by omega⟩]
    · rw [if_neg h1, if_neg (fun hh => h1 ⟨hh.1, by omega⟩)]

/-- Before the first group nothing is picked. -/
theorem Picked.start (J T : Nat) (v15 : FVec Ideal S640x512 .f32) (l : Fin 512) (z0 : EReal) : Picked J T 0 v15 l z0 z0 := by
  unfold Picked
  rw [if_neg (by omega)]

section
variable (J T : Nat) (hJ : J < 25) (hT : T < 16000) (v15 : FVec Ideal S640x512 .f32)
    (v70 v72 : IVec S8x512 32) (r : Fin 8) (l : Fin 512) (h70 : v70 (ix2 r l) = BitVec.ofNat 32 (T % 8))
    (h72 : v72 (ix2 r l) = BitVec.ofNat 32 (T / 8)) (zt : FVec Ideal S8x512 .f32)
include hJ hT h70 h72

theorem picked1 : Picked J T 3 v15 l (zt (ix2 r l)) (c1 (F := Ideal) (BitVec.ofNat 32 J) v15 v70 v72 zt (ix2 r l)) := by
  rw [c1_eq]
  exact (Picked.step J T 2 hJ hT (by decide) v15 v70 v72 r l h70 h72 _ _ (Picked.step J T 1 hJ hT (by decide) v15 v70 v72 r l h70 h72 _ _ (Picked.step J T 0 hJ hT (by decide) v15 v70 v72 r l h70 h72 _ _ (Picked.start J T v15 l _))))

theorem picked2 : Picked J T 6 v15 l (zt (ix2 r l)) (c2 (F := Ideal) (BitVec.ofNat 32 J) v15 v70 v72 zt (ix2 r l)) := by
  rw [c2_eq]
  exact (Picked.step J T 5 hJ hT (by decide) v15 v70 v72 r l h70 h72 _ _ (Picked.step J T 4 hJ hT (by decide) v15 v70 v72 r l h70 h72 _ _ (Picked.step J T 3 hJ hT (by decide) v15 v70 v72 r l h70 h72 _ _ (picked1 J T hJ hT v15 v70 v72 r l h70 h72 zt))))

theorem picked3 : Picked J T 9 v15 l (zt (ix2 r l)) (c3 (F := Ideal) (BitVec.ofNat 32 J) v15 v70 v72 zt (ix2 r l)) := by
  rw [c3_eq]
  exact (Picked.step J T 8 hJ hT (by decide) v15 v70 v72 r l h70 h72 _ _ (Picked.step J T 7 hJ hT (by decide) v15 v70 v72 r l h70 h72 _ _ (Picked.step J T 6 hJ hT (by decide) v15 v70 v72 r l h70 h72 _ _ (picked2 J T hJ hT v15 v70 v72 r l h70 h72 zt))))

theorem picked4 : Picked J T 13 v15 l (zt (ix2 r l)) (c4 (F := Ideal) (BitVec.ofNat 32 J) v15 v70 v72 zt (ix2 r l)) := by
  rw [c4_eq]
  exact (Picked.step J T 12 hJ hT (by decide) v15 v70 v72 r l h70 h72 _ _ (Picked.step J T 11 hJ hT (by decide) v15 v70 v72 r l h70 h72 _ _ (Picked.step J T 10 hJ hT (by decide) v15 v70 v72 r l h70 h72 _ _ (Picked.step J T 9 hJ hT (by decide) v15 v70 v72 r l h70 h72 _ _ (picked3 J T hJ hT v15 v70 v72 r l h70 h72 zt)))))

theorem picked5 : Picked J T 16 v15 l (zt (ix2 r l)) (c5 (F := Ideal) (BitVec.ofNat 32 J) v15 v70 v72 zt (ix2 r l)) := by
  rw [c5_eq]
  exact (Picked.step J T 15 hJ hT (by decide) v15 v70 v72 r l h70 h72 _ _ (Picked.step J T 14 hJ hT (by decide) v15 v70 v72 r l h70 h72 _ _ (Picked.step J T 13 hJ hT (by decide) v15 v70 v72 r l h70 h72 _ _ (picked4 J T hJ hT v15 v70 v72 r l h70 h72 zt))))

theorem picked6 : Picked J T 19 v15 l (zt (ix2 r l)) (c6 (F := Ideal) (BitVec.ofNat 32 J) v15 v70 v72 zt (ix2 r l)) := by
  rw [c6_eq]
  exact (Picked.step J T 18 hJ hT (by decide) v15 v70 v72 r l h70 h72 _ _ (Picked.step J T 17 hJ hT (by decide) v15 v70 v72 r l h70 h72 _ _ (Picked.step J T 16 hJ hT (by decide) v15 v70 v72 r l h70 h72 _ _ (picked5 J T hJ hT v15 v70 v72 r l h70 h72 zt))))

theorem picked7 : Picked J T 23 v15 l (zt (ix2 r l)) (c7 (F := Ideal) (BitVec.ofNat 32 J) v15 v70 v72 zt (ix2 r l)) := by
  rw [c7_eq]
  exact (Picked.step J T 22 hJ hT (by decide) v15 v70 v72 r l h70 h72 _ _ (Picked.step J T 21 hJ hT (by decide) v15 v70 v72 r l h70 h72 _ _ (Picked.step J T 20 hJ hT (by decide) v15 v70 v72 r l h70 h72 _ _ (Picked.step J T 19 hJ hT (by decide) v15 v70 v72 r l h70 h72 _ _ (picked6 J T hJ hT v15 v70 v72 r l h70 h72 zt)))))

theorem picked8 : Picked J T 26 v15 l (zt (ix2 r l)) (c8 (F := Ideal) (BitVec.ofNat 32 J) v15 v70 v72 zt (ix2 r l)) := by
  rw [c8_eq]
  exact (Picked.step J T 25 hJ hT (by decide) v15 v70 v72 r l h70 h72 _ _ (Picked.step J T 24 hJ hT (by decide) v15 v70 v72 r l h70 h72 _ _ (Picked.step J T 23 hJ hT (by decide) v15 v70 v72 r l h70 h72 _ _ (picked7 J T hJ hT v15 v70 v72 r l h70 h72 zt))))

theorem picked9 : Picked J T 29 v15 l (zt (ix2 r l)) (c9 (F := Ideal) (BitVec.ofNat 32 J) v15 v70 v72 zt (ix2 r l)) := by
  rw [c9_eq]
  exact (Picked.step J T 28 hJ hT (by decide) v15 v70 v72 r l h70 h72 _ _ (Picked.step J T 27 hJ hT (by decide) v15 v70 v72 r l h70 h72 _ _ (Picked.step J T 26 hJ hT (by decide) v15 v70 v72 r l h70 h72 _ _ (picked8 J T hJ hT v15 v70 v72 r l h70 h72 zt))))

theorem picked10 : Picked J T 33 v15 l (zt (ix2 r l)) (c10 (F := Ideal) (BitVec.ofNat 32 J) v15 v70 v72 zt (ix2 r l)) := by
  rw [c10_eq]
  exact (Picked.step J T 32 hJ hT (by decide) v15 v70 v72 r l h70 h72 _ _ (Picked.step J T 31 hJ hT (by decide) v15 v70 v72 r l h70 h72 _ _ (Picked.step J T 30 hJ hT (by decide) v15 v70 v72 r l h70 h72 _ _ (Picked.step J T 29 hJ hT (by decide) v15 v70 v72 r l h70 h72 _ _ (picked9 J T hJ hT v15 v70 v72 r l h70 h72 zt)))))

theorem picked11 : Picked J T 36 v15 l (zt (ix2 r l)) (c11 (F := Ideal) (BitVec.ofNat 32 J) v15 v70 v72 zt (ix2 r l)) := by
  rw [c11_eq]
  exact (Picked.step J T 35 hJ hT (by decide) v15 v70 v72 r l h70 h72 _ _ (Picked.step J T 34 hJ hT (by decide) v15 v70 v72 r l h70 h72 _ _ (Picked.step J T 33 hJ hT (by decide) v15 v70 v72 r l h70 h72 _ _ (picked10 J T hJ hT v15 v70 v72 r l h70 h72 zt))))

theorem picked12 : Picked J T 39 v15 l (zt (ix2 r l)) (c12 (F := Ideal) (BitVec.ofNat 32 J) v15 v70 v72 zt (ix2 r l)) := by
  rw [c12_eq]
  exact (Picked.step J T 38 hJ hT (by decide) v15 v70 v72 r l h70 h72 _ _ (Picked.step J T 37 hJ hT (by decide) v15 v70 v72 r l h70 h72 _ _ (Picked.step J T 36 hJ hT (by decide) v15 v70 v72 r l h70 h72 _ _ (picked11 J T hJ hT v15 v70 v72 r l h70 h72 zt))))

theorem picked13 : Picked J T 43 v15 l (zt (ix2 r l)) (c13 (F := Ideal) (BitVec.ofNat 32 J) v15 v70 v72 zt (ix2 r l)) := by
  rw [c13_eq]
  exact (Picked.step J T 42 hJ hT (by decide) v15 v70 v72 r l h70 h72 _ _ (Picked.step J T 41 hJ hT (by decide) v15 v70 v72 r l h70 h72 _ _ (Picked.step J T 40 hJ hT (by decide) v15 v70 v72 r l h70 h72 _ _ (Picked.step J T 39 hJ hT (by decide) v15 v70 v72 r l h70 h72 _ _ (picked12 J T hJ hT v15 v70 v72 r l h70 h72 zt)))))

theorem picked14 : Picked J T 46 v15 l (zt (ix2 r l)) (c14 (F := Ideal) (BitVec.ofNat 32 J) v15 v70 v72 zt (ix2 r l)) := by
  rw [c14_eq]
  exact (Picked.step J T 45 hJ hT (by decide) v15 v70 v72 r l h70 h72 _ _ (Picked.step J T 44 hJ hT (by decide) v15 v70 v72 r l h70 h72 _ _ (Picked.step J T 43 hJ hT (by decide) v15 v70 v72 r l h70 h72 _ _ (picked13 J T hJ hT v15 v70 v72 r l h70 h72 zt))))

theorem picked15 : Picked J T 49 v15 l (zt (ix2 r l)) (c15 (F := Ideal) (BitVec.ofNat 32 J) v15 v70 v72 zt (ix2 r l)) := by
  rw [c15_eq]
  exact (Picked.step J T 48 hJ hT (by decide) v15 v70 v72 r l h70 h72 _ _ (Picked.step J T 47 hJ hT (by decide) v15 v70 v72 r l h70 h72 _ _ (Picked.step J T 46 hJ hT (by decide) v15 v70 v72 r l h70 h72 _ _ (picked14 J T hJ hT v15 v70 v72 r l h70 h72 zt))))

theorem picked16 : Picked J T 53 v15 l (zt (ix2 r l)) (c16 (F := Ideal) (BitVec.ofNat 32 J) v15 v70 v72 zt (ix2 r l)) := by
  rw [c16_eq]
  exact (Picked.step J T 52 hJ hT (by decide) v15 v70 v72 r l h70 h72 _ _ (Picked.step J T 51 hJ hT (by decide) v15 v70 v72 r l h70 h72 _ _ (Picked.step J T 50 hJ hT (by decide) v15 v70 v72 r l h70 h72 _ _ (Picked.step J T 49 hJ hT (by decide) v15 v70 v72 r l h70 h72 _ _ (picked15 J T hJ hT v15 v70 v72 r l h70 h72 zt)))))

theorem picked17 : Picked J T 56 v15 l (zt (ix2 r l)) (c17 (F := Ideal) (BitVec.ofNat 32 J) v15 v70 v72 zt (ix2 r l)) := by
  rw [c17_eq]
  exact (Picked.step J T 55 hJ hT (by decide) v15 v70 v72 r l h70 h72 _ _ (Picked.step J T 54 hJ hT (by decide) v15 v70 v72 r l h70 h72 _ _ (Picked.step J T 53 hJ hT (by decide) v15 v70 v72 r l h70 h72 _ _ (picked16 J T hJ hT v15 v70 v72 r l h70 h72 zt))))

theorem picked18 : Picked J T 59 v15 l (zt (ix2 r l)) (c18 (F := Ideal) (BitVec.ofNat 32 J) v15 v70 v72 zt (ix2 r l)) := by
  rw [c18_eq]
  exact (Picked.step J T 58 hJ hT (by decide) v15 v70 v72 r l h70 h72 _ _ (Picked.step J T 57 hJ hT (by decide) v15 v70 v72 r l h70 h72 _ _ (Picked.step J T 56 hJ hT (by decide) v15 v70 v72 r l h70 h72 _ _ (picked17 J T hJ hT v15 v70 v72 r l h70 h72 zt))))

theorem picked19 : Picked J T 63 v15 l (zt (ix2 r l)) (c19 (F := Ideal) (BitVec.ofNat 32 J) v15 v70 v72 zt (ix2 r l)) := by
  rw [c19_eq]
  exact (Picked.step J T 62 hJ hT (by decide) v15 v70 v72 r l h70 h72 _ _ (Picked.step J T 61 hJ hT (by decide) v15 v70 v72 r l h70 h72 _ _ (Picked.step J T 60 hJ hT (by decide) v15 v70 v72 r l h70 h72 _ _ (Picked.step J T 59 hJ hT (by decide) v15 v70 v72 r l h70 h72 _ _ (picked18 J T hJ hT v15 v70 v72 r l h70 h72 zt)))))

theorem picked20 : Picked J T 66 v15 l (zt (ix2 r l)) (c20 (F := Ideal) (BitVec.ofNat 32 J) v15 v70 v72 zt (ix2 r l)) := by
  rw [c20_eq]
  exact (Picked.step J T 65 hJ hT (by decide) v15 v70 v72 r l h70 h72 _ _ (Picked.step J T 64 hJ hT (by decide) v15 v70 v72 r l h70 h72 _ _ (Picked.step J T 63 hJ hT (by decide) v15 v70 v72 r l h70 h72 _ _ (picked19 J T hJ hT v15 v70 v72 r l h70 h72 zt))))

theorem picked21 : Picked J T 69 v15 l (zt (ix2 r l)) (c21 (F := Ideal) (BitVec.ofNat 32 J) v15 v70 v72 zt (ix2 r l)) := by
  rw [c21_eq]
  exact (Picked.step J T 68 hJ hT (by decide) v15 v70 v72 r l h70 h72 _ _ (Picked.step J T 67 hJ hT (by decide) v15 v70 v72 r l h70 h72 _ _ (Picked.step J T 66 hJ hT (by decide) v15 v70 v72 r l h70 h72 _ _ (picked20 J T hJ hT v15 v70 v72 r l h70 h72 zt))))

theorem picked22 : Picked J T 73 v15 l (zt (ix2 r l)) (c22 (F := Ideal) (BitVec.ofNat 32 J) v15 v70 v72 zt (ix2 r l)) := by
  rw [c22_eq]
  exact (Picked.step J T 72 hJ hT (by decide) v15 v70 v72 r l h70 h72 _ _ (Picked.step J T 71 hJ hT (by decide) v15 v70 v72 r l h70 h72 _ _ (Picked.step J T 70 hJ hT (by decide) v15 v70 v72 r l h70 h72 _ _ (Picked.step J T 69 hJ hT (by decide) v15 v70 v72 r l h70 h72 _ _ (picked21 J T hJ hT v15 v70 v72 r l h70 h72 zt)))))

theorem picked23 : Picked J T 76 v15 l (zt (ix2 r l)) (c23 (F := Ideal) (BitVec.ofNat 32 J) v15 v70 v72 zt (ix2 r l)) := by
  rw [c23_eq]
  exact (Picked.step J T 75 hJ hT (by decide) v15 v70 v72 r l h70 h72 _ _ (Picked.step J T 74 hJ hT (by decide) v15 v70 v72 r l h70 h72 _ _ (Picked.step J T 73 hJ hT (by decide) v15 v70 v72 r l h70 h72 _ _ (picked22 J T hJ hT v15 v70 v72 r l h70 h72 zt))))

theorem picked24 : Picked J T 79 v15 l (zt (ix2 r l)) (c24 (F := Ideal) (BitVec.ofNat 32 J) v15 v70 v72 zt (ix2 r l)) := by
  rw [c24_eq]
  exact (Picked.step J T 78 hJ hT (by decide) v15 v70 v72 r l h70 h72 _ _ (Picked.step J T 77 hJ hT (by decide) v15 v70 v72 r l h70 h72 _ _ (Picked.step J T 76 hJ hT (by decide) v15 v70 v72 r l h70 h72 _ _ (picked23 J T hJ hT v15 v70 v72 r l h70 h72 zt))))

/-- The whole chain: the target's logit where the target lies in the block, the earlier value elsewhere. -/
theorem ztN_apply : ztN (F := Ideal) (BitVec.ofNat 32 J) v15 v70 v72 zt (ix2 r l)
    = if 640 * J ≤ T ∧ T < 640 * J + 640 then pickAt v15 T l else zt (ix2 r l) := by
  rw [ztN_eq, shapeCast_id]
  have h := Picked.step J T 79 hJ hT (by decide) v15 v70 v72 r l h70 h72 _ _ (picked24 J T hJ hT v15 v70 v72 r l h70 h72 zt)
  unfold Picked at h
  rw [h]
  by_cases hc : 640 * J ≤ T ∧ T < 640 * J + 640
  · rw [if_pos hc, if_pos ⟨by omega, by omega⟩]
  · rw [if_neg hc, if_neg (fun hh => hc ⟨by omega, by omega⟩)]

end

end Cert.Head

end
-- ==== Proof.Online.lean ====
/-
  The head's running statistics over the vocabulary, taken `640` rows at a time: what they are after the first
  `n` rows (`Inv`), how one block moves them (`Inv.step`), and that after all rows they are the statistics that
  `finish` reads.
-/
module

public import proofs.«01_k».proof.Proof.Finish

@[expose] public section

noncomputable section

namespace Cert.Head

open Idealize.ShloMosaic

/-- The vocabulary rows below `n`. -/
def rowsBelow (n : ℕ) : Finset (Fin 16000) := Finset.univ.filter fun v => v.val < n

/-- The maximum and the three sums are those of the rows below `n`. -/
def Inv (Z : Fin 16000 → EReal) (n : ℕ) (m s0 s1 s2 : EReal) : Prop :=
  m = (rowsBelow n).sup Z ∧ s0 = ((T 0 Z (rowsBelow n) m : ℝ) : EReal) ∧ s1 = ((T 1 Z (rowsBelow n) m : ℝ) : EReal)
    ∧ s2 = ((T 2 Z (rowsBelow n) m : ℝ) : EReal)

theorem rowsBelow_zero : rowsBelow 0 = ∅ := by ext v; simp [rowsBelow]

theorem rowsBelow_all : rowsBelow 16000 = Finset.univ := by ext v; simp [rowsBelow]

/-- The rows of the block that starts at row `n`. -/
def blockRow (n : ℕ) (h : n + 640 ≤ 16000) : Fin 640 ↪ Fin 16000 :=
  ⟨fun r => ⟨n + r.val, by omega⟩, fun a b hab => by
    have := congrArg Fin.val hab
    exact Fin.ext (by simpa using this)⟩

theorem blockRow_val (n : ℕ) (h : n + 640 ≤ 16000) (r : Fin 640) : (blockRow n h r).val = n + r.val := rfl

theorem mem_rowsBelow (n : ℕ) (v : Fin 16000) : v ∈ rowsBelow n ↔ v.val < n := by
  unfold rowsBelow; rw [Finset.mem_filter]; exact and_iff_right (Finset.mem_univ v)

theorem rowsBelow_step (n : ℕ) (h : n + 640 ≤ 16000) :
    rowsBelow (n + 640) = (rowsBelow n).disjUnion (Finset.univ.map (blockRow n h)) (by
      rw [Finset.disjoint_left]
      intro v hv hv'
      obtain ⟨r, -, rfl⟩ := Finset.mem_map.mp hv'
      rw [mem_rowsBelow, blockRow_val] at hv
      omega) := by
  ext v
  rw [Finset.mem_disjUnion, mem_rowsBelow, mem_rowsBelow, Finset.mem_map]
  constructor
  · intro hv
    by_cases h' : v.val < n
    · exact .inl h'
    · exact .inr ⟨⟨v.val - n, by omega⟩, Finset.mem_univ _, Fin.ext (by rw [blockRow_val]; simp only; omega)⟩
  · rintro (hv | ⟨r, -, rfl⟩)
    · omega
    · rw [blockRow_val]; omega

theorem T_step (k : ℕ) (Z : Fin 16000 → EReal) (n : ℕ) (h : n + 640 ≤ 16000) (m : EReal) :
    T k Z (rowsBelow (n + 640)) m = T k Z (rowsBelow n) m + ∑ r, tk k (Z (blockRow n h r)) m := by
  unfold T; rw [rowsBelow_step n h, Finset.sum_disjUnion, Finset.sum_map]

/-- Before the first row. -/
theorem Inv.start (Z : Fin 16000 → EReal) : Inv Z 0 ⊥ 0 0 0 := by
  unfold Inv T; rw [rowsBelow_zero]
  refine ⟨Finset.sup_empty.symm, ?_, ?_, ?_⟩ <;> rw [Finset.sum_empty, EReal.coe_zero]

/-- ONE BLOCK: the kernel's update of its four statistics by the `640` logits `zb` of a block. -/
theorem Inv.step {Z : Fin 16000 → EReal} {n : ℕ} (h : n + 640 ≤ 16000) {m s0 s1 s2 : EReal} (hi : Inv Z n m s0 s1 s2)
    (zb : Fin 640 → EReal) (hzb : ∀ r, zb r = Z (blockRow n h r)) {m' : EReal} (hm' : m' = max m (Finset.univ.sup zb)) :
    Inv Z (n + 640) m' (s0 * Ideal.exp2 (dmOf m m') + ∑ r, Ideal.exp2 (zb r - m'))
      ((s1 + dmOf m m' * s0) * Ideal.exp2 (dmOf m m') + ∑ r, (zb r - m') * Ideal.exp2 (zb r - m'))
      ((s2 + ((2 : ℝ) : EReal) * dmOf m m' * s1 + dmOf m m' * dmOf m m' * s0) * Ideal.exp2 (dmOf m m')
        + ∑ r, (zb r - m') * ((zb r - m') * Ideal.exp2 (zb r - m'))) := by
  obtain ⟨hi0, hi1, hi2, hi3⟩ := hi
  subst hi1 hi2 hi3
  have hmm : m ≤ m' := hm' ▸ le_max_left _ _
  have hb : ∀ r, zb r ≤ m' := fun r => hm' ▸ le_max_of_le_right (Finset.le_sup (f := zb) (Finset.mem_univ r))
  obtain ⟨h0, h1, h2⟩ := shift Z (rowsBelow n) (m := m) (m' := m') (fun v hv => hi0 ▸ Finset.le_sup hv) hmm
  have hs : ∀ (k : ℕ) (f : Fin 640 → EReal), (∀ r, f r = ((tk k (zb r) m' : ℝ) : EReal)) →
      ((T k Z (rowsBelow n) m' : ℝ) : EReal) + ∑ r, f r = ((T k Z (rowsBelow (n + 640)) m' : ℝ) : EReal) := fun k f hf => by
    have hsum : ∑ r, f r = ((∑ r, tk k (Z (blockRow n h r)) m' : ℝ) : EReal) :=
      (Finset.sum_congr rfl fun r _ => by rw [hf r, hzb r]).trans (coe_sum Finset.univ fun r => tk k (Z (blockRow n h r)) m')
    rw [hsum, T_step k Z n h, EReal.coe_add]
  refine ⟨?_, ?_, ?_, ?_⟩
  · rw [hm', hi0, rowsBelow_step n h]
    apply le_antisymm
    · refine max_le (Finset.sup_mono fun v hv => Finset.mem_disjUnion.mpr (.inl hv)) (Finset.sup_le fun r _ => ?_)
      rw [hzb r]
      exact Finset.le_sup (f := Z) (Finset.mem_disjUnion.mpr (.inr (Finset.mem_map.mpr ⟨r, Finset.mem_univ r, rfl⟩)))
    · refine Finset.sup_le fun v hv => ?_
      rcases Finset.mem_disjUnion.mp hv with hv | hv
      · exact le_max_of_le_left (Finset.le_sup (f := Z) hv)
      · obtain ⟨r, -, rfl⟩ := Finset.mem_map.mp hv
        rw [← hzb r]
        exact le_max_of_le_right (Finset.le_sup (f := zb) (Finset.mem_univ r))
  · rw [h0]; exact hs 0 _ fun r => (terms (hb r)).1
  · rw [h1]; exact hs 1 _ fun r => (terms (hb r)).2.1
  · rw [h2]; exact hs 2 _ fun r => (terms (hb r)).2.2

/-- AFTER ALL ROWS, with the natural logits `z` and their base-two scalings `Z`: the kernel's three results are the reference's. -/
theorem Inv.finish {Z z : Fin 16000 → EReal} (hZ : ∀ v, Z v = z v * (cR : EReal)) {m s0 s1 s2 : EReal}
    (hi : Inv Z 16000 m s0 s1 s2) :
    kH s0 s1 = rH z (Finset.univ.sup z) ∧ kV s0 s1 s2 = rV z (Finset.univ.sup z)
      ∧ ∀ tgt, kT s0 m (Z tgt) = rLogp z (Finset.univ.sup z) tgt := by
  obtain rfl : Z = fun v => z v * (cR : EReal) := funext hZ
  obtain ⟨hm, h0, h1, h2⟩ := hi
  rw [rowsBelow_all] at hm h0 h1 h2
  obtain ⟨v0, -, hv0⟩ := Finset.exists_mem_eq_sup Finset.univ Finset.univ_nonempty z
  have hle : ∀ v, z v ≤ Finset.univ.sup z := fun v => Finset.le_sup (Finset.mem_univ v)
  have hm' : m = Finset.univ.sup z * (cR : EReal) := by
    rw [hm]
    apply le_antisymm
    · exact Finset.sup_le fun v _ => scale_le (hle v)
    · rw [hv0]; exact Finset.le_sup (f := fun v => z v * (cR : EReal)) (Finset.mem_univ v0)
  rw [h0, h1, h2, hm']
  have key := fun tgt => Cert.Head.finish z (Finset.univ.sup z) hle ⟨v0, hv0.symm⟩ tgt
  exact ⟨(key v0).1, (key v0).2.1, fun tgt => (key tgt).2.2⟩

end Cert.Head

end
-- ==== Proof.Block.lean ====
/- The step's payloads read at an index, over the extended reals: they are the block update of `Proof/Online.lean`. -/
module

public import proofs.«01_k».proof.Defs
public import proofs.«01_k».proof.Proof.Step
public import proofs.«01_k».proof.Proof.Consts
public import proofs.«01_k».proof.Proof.Online
public import Idealize.ShloMosaic.Lib.Pointwise

@[expose] public section

set_option maxRecDepth 16384

noncomputable section

namespace Cert.Head

open Cert.KernelIdeal Cert.KernelIdeal.Gen Idealize.ShloMosaic Idealize.ShloMosaic.TcCoe

theorem log2e_eq : Named.named (F := Ideal) κ "log2e" (φ := .f32) 0x3FB8AA3B#32 = ((cR : ℝ) : EReal) :=
  IdealRules.named_const.ideal_named_scalar _ _ _ _ rfl
theorem ln2_eq : Named.named (F := Ideal) κ "ln2" (φ := .f32) 0x3F317218#32 = ((Real.log 2 : ℝ) : EReal) :=
  IdealRules.named_const.ideal_named_scalar _ _ _ _ rfl
theorem ln2sq_eq : Named.named (F := Ideal) κ "ln2sq" (φ := .f32) 0x3EF5FDF0#32 = ((Real.log 2 * Real.log 2 : ℝ) : EReal) :=
  IdealRules.named_const.ideal_named_scalar _ _ _ _ rfl
/-- The maximum over all rows of a column, started at minus infinity. -/
theorem fold_max_sup {n : ℕ} (f : Fin n → EReal) : Finset.fold max ⊥ f Finset.univ = Finset.univ.sup f := rfl

section
variable (x0 : Vec Ideal S512x16384 .fp8e4m3) (x1 : Vec Ideal S640x16384 .fp8e4m3) (x2 : Vec Ideal S640x1 .f32) (x3 : Vec Ideal S1x512 .f32)
  (m s0 s1 s2 : Vec Ideal S1x512 .f32)

/-- The scaled logit of row `r` of the block and token `l`. -/
theorem zB_apply (r : Fin 640) (l : Fin 512) : zB (F := Ideal) x0 x1 x2 x3 (ix2 r l)
    = (∑ k : Fin 16384, x1 (ix2 r k) * x0 (ix2 l k)) * (x2 (ix2 r 0) * (cR : EReal)) * x3 (ix2 0 l) := by
  pointwise [zB, k0_pay12, log2e_eq]

/-- The new maximum is the old one or the block's greatest logit. -/
theorem mN_apply (l : Fin 512) : mN (F := Ideal) x0 x1 x2 x3 m (ix2 0 l)
    = max (m (ix2 0 l)) (Finset.univ.sup fun r : Fin 640 => zB (F := Ideal) x0 x1 x2 x3 (ix2 r l)) := by
  show k0_pay23 (k0_pay13 x1 x0 x2 x3 m) (ix2 0 l) = _
  pointwise [k0_pay23, k0_pay13]
  rw [Cert.Consts.negInf]
  rfl

theorem k0_pay13_apply (l : Fin 512) : k0_pay13 (F := Ideal) x1 x0 x2 x3 m (ix2 0 l) = mN (F := Ideal) x0 x1 x2 x3 m (ix2 0 l) := by
  unfold mN k0_pay23
  rw [shapeCast_id]

/-- The block's logit less the new maximum. -/
theorem d_apply (r : Fin 640) (l : Fin 512) : k0_pay14 (F := Ideal) x1 x0 x2 x3 m (ix2 r l)
    = zB (F := Ideal) x0 x1 x2 x3 (ix2 r l) - mN (F := Ideal) x0 x1 x2 x3 m (ix2 0 l) := by
  pointwise [k0_pay14]
  rw [k0_pay13_apply]
  rfl

theorem e_apply (r : Fin 640) (l : Fin 512) : k0_pay15 (F := Ideal) x1 x0 x2 x3 m (ix2 r l)
    = Ideal.exp2 (zB (F := Ideal) x0 x1 x2 x3 (ix2 r l) - mN (F := Ideal) x0 x1 x2 x3 m (ix2 0 l)) := by
  pointwise [k0_pay15]
  rw [d_apply]
  rfl

theorem de_apply (r : Fin 640) (l : Fin 512) : k0_pay16 (F := Ideal) x1 x0 x2 x3 m (ix2 r l)
    = (zB (F := Ideal) x0 x1 x2 x3 (ix2 r l) - mN (F := Ideal) x0 x1 x2 x3 m (ix2 0 l))
      * Ideal.exp2 (zB (F := Ideal) x0 x1 x2 x3 (ix2 r l) - mN (F := Ideal) x0 x1 x2 x3 m (ix2 0 l)) := by
  pointwise [k0_pay16]
  rw [d_apply, e_apply]

theorem dm_apply (l : Fin 512) : k0_pay17 (F := Ideal) x1 x0 x2 x3 m (ix2 0 l)
    = dmOf (m (ix2 0 l)) (mN (F := Ideal) x0 x1 x2 x3 m (ix2 0 l)) := by
  pointwise [k0_pay17]
  rw [Cert.Consts.negInf, k0_pay13_apply]
  rfl

theorem f_apply (l : Fin 512) : k0_pay18 (F := Ideal) x1 x0 x2 x3 m (ix2 0 l)
    = Ideal.exp2 (dmOf (m (ix2 0 l)) (mN (F := Ideal) x0 x1 x2 x3 m (ix2 0 l))) := by
  pointwise [k0_pay18]
  rw [dm_apply]
  rfl

theorem s0N_apply (l : Fin 512) : s0N (F := Ideal) x0 x1 x2 x3 m s0 (ix2 0 l)
    = s0 (ix2 0 l) * Ideal.exp2 (dmOf (m (ix2 0 l)) (mN (F := Ideal) x0 x1 x2 x3 m (ix2 0 l)))
      + ∑ r : Fin 640, Ideal.exp2 (zB (F := Ideal) x0 x1 x2 x3 (ix2 r l) - mN (F := Ideal) x0 x1 x2 x3 m (ix2 0 l)) := by
  show k0_pay20 (k0_pay15 x1 x0 x2 x3 m) (k0_pay19 x1 x0 x2 x3 m s0) (ix2 0 l) = _
  pointwise [k0_pay20, k0_pay19]
  simp only [e_apply, f_apply]

theorem s1N_apply (l : Fin 512) : s1N (F := Ideal) x0 x1 x2 x3 m s0 s1 (ix2 0 l)
    = (s1 (ix2 0 l) + dmOf (m (ix2 0 l)) (mN (F := Ideal) x0 x1 x2 x3 m (ix2 0 l)) * s0 (ix2 0 l))
        * Ideal.exp2 (dmOf (m (ix2 0 l)) (mN (F := Ideal) x0 x1 x2 x3 m (ix2 0 l)))
      + ∑ r : Fin 640, (zB (F := Ideal) x0 x1 x2 x3 (ix2 r l) - mN (F := Ideal) x0 x1 x2 x3 m (ix2 0 l))
        * Ideal.exp2 (zB (F := Ideal) x0 x1 x2 x3 (ix2 r l) - mN (F := Ideal) x0 x1 x2 x3 m (ix2 0 l)) := by
  show k0_pay21 (k0_pay16 x1 x0 x2 x3 m) (k0_pay17 x1 x0 x2 x3 m) (k0_pay18 x1 x0 x2 x3 m) s0 s1 (ix2 0 l) = _
  pointwise [k0_pay21]
  simp only [de_apply, dm_apply, f_apply]

theorem s2N_apply (l : Fin 512) : s2N (F := Ideal) x0 x1 x2 x3 m s0 s1 s2 (ix2 0 l)
    = (s2 (ix2 0 l) + ((2 : ℝ) : EReal) * dmOf (m (ix2 0 l)) (mN (F := Ideal) x0 x1 x2 x3 m (ix2 0 l)) * s1 (ix2 0 l)
          + dmOf (m (ix2 0 l)) (mN (F := Ideal) x0 x1 x2 x3 m (ix2 0 l)) * dmOf (m (ix2 0 l)) (mN (F := Ideal) x0 x1 x2 x3 m (ix2 0 l)) * s0 (ix2 0 l))
        * Ideal.exp2 (dmOf (m (ix2 0 l)) (mN (F := Ideal) x0 x1 x2 x3 m (ix2 0 l)))
      + ∑ r : Fin 640, (zB (F := Ideal) x0 x1 x2 x3 (ix2 r l) - mN (F := Ideal) x0 x1 x2 x3 m (ix2 0 l))
        * ((zB (F := Ideal) x0 x1 x2 x3 (ix2 r l) - mN (F := Ideal) x0 x1 x2 x3 m (ix2 0 l))
          * Ideal.exp2 (zB (F := Ideal) x0 x1 x2 x3 (ix2 r l) - mN (F := Ideal) x0 x1 x2 x3 m (ix2 0 l))) := by
  show k0_pay22 (k0_pay14 x1 x0 x2 x3 m) (k0_pay16 x1 x0 x2 x3 m) (k0_pay17 x1 x0 x2 x3 m) (k0_pay18 x1 x0 x2 x3 m) s0 s1 s2 (ix2 0 l) = _
  pointwise [k0_pay22]
  simp only [d_apply, de_apply, dm_apply, f_apply, Cert.Consts.two]

theorem out5_apply (l : Fin 512) : k0_pay4 (F := Ideal) s0 s1 (ix2 0 l) = kH (s0 (ix2 0 l)) (s1 (ix2 0 l)) := by
  pointwise [k0_pay4, k0_pay3, k0_pay2, log2e_eq, ln2_eq]
  rfl

theorem out6_apply (l : Fin 512) : k0_pay5 (F := Ideal) s0 s1 s2 (ix2 0 l) = kV (s0 (ix2 0 l)) (s1 (ix2 0 l)) (s2 (ix2 0 l)) := by
  pointwise [k0_pay5, k0_pay2, ln2sq_eq]
  rfl

theorem out7_apply (zt : Vec Ideal S8x512 .f32) (r : Fin 8) (l : Fin 512) :
    k0_pay6 (F := Ideal) s0 zt m (ix2 r l) = kT (s0 (ix2 0 l)) (m (ix2 0 l)) (zt (ix2 r l)) := by
  pointwise [k0_pay6, k0_pay3, log2e_eq, ln2_eq]
  rfl

/-- One block's step keeps the invariant of the running statistics in every column. -/
theorem Inv.block {Z : Fin 16000 → EReal} {n : ℕ} (h : n + 640 ≤ 16000) (l : Fin 512)
    (hi : Inv Z n (m (ix2 0 l)) (s0 (ix2 0 l)) (s1 (ix2 0 l)) (s2 (ix2 0 l)))
    (hz : ∀ r, zB (F := Ideal) x0 x1 x2 x3 (ix2 r l) = Z (blockRow n h r)) :
    Inv Z (n + 640) (mN (F := Ideal) x0 x1 x2 x3 m (ix2 0 l)) (s0N (F := Ideal) x0 x1 x2 x3 m s0 (ix2 0 l))
      (s1N (F := Ideal) x0 x1 x2 x3 m s0 s1 (ix2 0 l)) (s2N (F := Ideal) x0 x1 x2 x3 m s0 s1 s2 (ix2 0 l)) := by
  rw [s0N_apply, s1N_apply, s2N_apply]
  exact Inv.step h hi _ hz (mN_apply x0 x1 x2 x3 m l)
end
end Cert.Head

end
-- ==== Proof.Fold.lean ====
/- What the head's scratch holds after each grid point, at an index: the running statistics of the column's logits and
   the target logits met so far; and what the last point of a column writes out. -/
module

public import proofs.«01_k».proof.Proof.Entry
public import proofs.«01_k».proof.Proof.Cases
public import proofs.«01_k».proof.Proof.Gather
public import proofs.«01_k».proof.Proof.Block

@[expose] public section

set_option maxRecDepth 16384

noncomputable section

namespace Cert.Head

open Cert.KernelIdeal Cert.KernelIdeal.Gen Idealize.ShloMosaic Idealize.ShloMosaic.TcCoe Idealize.SL.Sem

variable (m : (ℓ : Loc nD τ sig) → Buf (Elt Ideal) ℓ) (c : Dev nD)

/-- A token's logit for a vocabulary row, in units of log two, the factors as the kernel multiplies them. -/
def zkOf (a0 : Vec Ideal S2560x16384 .fp8e4m3) (a1 : Vec Ideal S16000x16384 .fp8e4m3) (a2 : Vec Ideal S16000 .f32) (a3 : Vec Ideal S2560x1 .f32)
    (n : Fin 2560) (v : Fin 16000) : EReal :=
  (∑ k : Fin 16384, a1 (ix2 v k) * a0 (ix2 n k)) * (a2 (ix1 v) * (cR : EReal)) * a3 (ix2 n 0)

/-- A token's logit for a vocabulary row, the factors as the reference multiplies them. -/
def zrOf (a0 : Vec Ideal S2560x16384 .fp8e4m3) (a1 : Vec Ideal S16000x16384 .fp8e4m3) (a2 : Vec Ideal S16000 .f32) (a3 : Vec Ideal S2560x1 .f32)
    (n : Fin 2560) (v : Fin 16000) : EReal :=
  (∑ k : Fin 16384, a0 (ix2 n k) * a1 (ix2 v k)) * a3 (ix2 n 0) * a2 (ix1 v)

theorem zkOf_eq (a0 : Vec Ideal S2560x16384 .fp8e4m3) (a1 : Vec Ideal S16000x16384 .fp8e4m3) (a2 : Vec Ideal S16000 .f32) (a3 : Vec Ideal S2560x1 .f32)
    (n : Fin 2560) (v : Fin 16000) : zkOf a0 a1 a2 a3 n v = zrOf a0 a1 a2 a3 n v * (cR : EReal) := by
  unfold zkOf zrOf
  have e : (∑ k : Fin 16384, (a1 (ix2 v k) : EReal) * (a0 (ix2 n k) : EReal)) = ∑ k : Fin 16384, (a0 (ix2 n k) : EReal) * (a1 (ix2 v k) : EReal) :=
    Finset.sum_congr rfl fun k _ => mul_comm _ _
  have h : ∀ x y z w : EReal, x * (y * z) * w = x * w * y * z := fun x y z w => by
    rw [← mul_assoc, mul_right_comm _ z w, mul_right_comm x y w]
  exact (congrArg (fun q : EReal => q * ((a2 (ix1 v) : EReal) * (cR : EReal)) * (a3 (ix2 n 0) : EReal)) e).trans (h _ _ _ _)

/-- The two, of the program's arguments. -/
def zk (n : Fin 2560) (v : Fin 16000) : EReal := zkOf (m ((c : Thread nD τ).loc main_arg0)) (m ((c : Thread nD τ).loc main_arg1))
  (m ((c : Thread nD τ).loc main_arg2)) (m ((c : Thread nD τ).loc main_arg3)) n v
def zr (n : Fin 2560) (v : Fin 16000) : EReal := zrOf (m ((c : Thread nD τ).loc main_arg0)) (m ((c : Thread nD τ).loc main_arg1))
  (m ((c : Thread nD τ).loc main_arg2)) (m ((c : Thread nD τ).loc main_arg3)) n v

theorem zk_eq (n : Fin 2560) (v : Fin 16000) : zk m c n v = zr m c n v * (cR : EReal) := zkOf_eq _ _ _ _ n v

/-- The block of logits a grid point forms. -/
theorem zB_entry (t : Fin cfg0.N) (r : Fin 640) (l : Fin 512) :
    zB (F := Ideal) (iblk m c 0 t) (iblk m c 1 t) (iblk m c 2 t) (iblk m c 3 t) (ix2 r l) = zk m c (tok t l) (voc t r) := by
  rw [zB_apply]
  unfold zk zkOf
  refine congrArg₂ (· * ·) (congrArg₂ (· * ·) (Finset.sum_congr rfl fun k _ => congrArg₂ (· * ·) (iblk1 m c t r k) (iblk0 m c t l k))
    (congrArg (· * (cR : EReal)) (iblk2 m c t r))) (iblk3 m c t l)

section

/-- The running target logit of a token after the blocks below row `b`: the target's logit if it was met, zero if not. -/
def ztAt (n : Fin 2560) (r : Fin 8) (b : Nat) : EReal :=
  if (V m c main_v2 (ix2 r n)).toNat < b then zk m c n ⟨(V m c main_v2 (ix2 r n)).toNat % 16000, Nat.mod_lt _ (by decide)⟩ else 0

/-- One grid point's picks. -/
theorem zt_step (hpre : Pre_KernelIdeal_targets_in_range m) (t : Fin cfg0.N) (r : Fin 8) (l : Fin 512) (zt : Vec Ideal S8x512 .f32)
    (h : zt (ix2 r l) = ztAt m c (tok t l) r (640 * (t.val % 25))) :
    ztStep (F := Ideal) (BitVec.ofNat 32 ((grid0.coords t) 1).val) (iblk m c 0 t) (iblk m c 1 t) (iblk m c 2 t) (iblk m c 3 t) (iblk m c 4 t) zt (ix2 r l)
      = ztAt m c (tok t l) r (640 * (t.val % 25 + 1)) := by
  have hT := pre_pad m c hpre r (tok t l)
  have e4 := iblk4 m c t r l
  unfold ztStep
  rw [coord1, ztN_apply (t.val % 25) (V m c main_v2 (ix2 r (tok t l))).toNat (by omega) hT _ _ _ r l
    (by rw [sub_apply, e4]) (by rw [grp_apply _ _ _ (by rw [e4]; exact hT), e4]), h]
  unfold ztAt pickAt
  have hTe := hT
  by_cases h1 : 640 * (t.val % 25) ≤ (V m c main_v2 (ix2 r (tok t l))).toNat ∧ (V m c main_v2 (ix2 r (tok t l))).toNat < 640 * (t.val % 25) + 640
  · rw [if_pos h1, if_pos (by omega), zB_entry]
    refine congrArg (zk m c (tok t l)) (Fin.ext ?_)
    show 640 * (t.val % 25) + (V m c main_v2 (ix2 r (tok t l))).toNat % 640 = (V m c main_v2 (ix2 r (tok t l))).toNat % 16000
    omega
  · rw [if_neg h1]
    by_cases h2 : (V m c main_v2 (ix2 r (tok t l))).toNat < 640 * (t.val % 25)
    · rw [if_pos h2, if_pos (by omega)]
    · rw [if_neg h2, if_neg (by omega)]

/-- One grid point's statistics. -/
theorem inv_step (t : Fin cfg0.N) (l : Fin 512) (mx s0 s1 s2 : Vec Ideal S1x512 .f32)
    (h : Inv (zk m c (tok t l)) (640 * (t.val % 25)) (mx (ix2 0 l)) (s0 (ix2 0 l)) (s1 (ix2 0 l)) (s2 (ix2 0 l))) :
    Inv (zk m c (tok t l)) (640 * (t.val % 25 + 1))
      (mN (F := Ideal) (iblk m c 0 t) (iblk m c 1 t) (iblk m c 2 t) (iblk m c 3 t) mx (ix2 0 l))
      (s0N (F := Ideal) (iblk m c 0 t) (iblk m c 1 t) (iblk m c 2 t) (iblk m c 3 t) mx s0 (ix2 0 l))
      (s1N (F := Ideal) (iblk m c 0 t) (iblk m c 1 t) (iblk m c 2 t) (iblk m c 3 t) mx s0 s1 (ix2 0 l))
      (s2N (F := Ideal) (iblk m c 0 t) (iblk m c 1 t) (iblk m c 2 t) (iblk m c 3 t) mx s0 s1 s2 (ix2 0 l)) := by
  rw [Nat.mul_add, Nat.mul_one]
  refine Inv.block (iblk m c 0 t) (iblk m c 1 t) (iblk m c 2 t) (iblk m c 3 t) mx s0 s1 s2 (by omega) l h fun r => ?_
  rw [zB_entry]
  rfl

/-- The statistics and the picks start at minus infinity and zeros. -/
theorem start_m (l : Fin 512) : k0_pay7 (F := Ideal) (ix2 0 l) = ⊥ := by
  pointwise [k0_pay7]
  exact Cert.Consts.negInf
theorem start_s0 (l : Fin 512) : k0_pay8 (F := Ideal) (ix2 0 l) = 0 := by pointwise [k0_pay8]
theorem start_s1 (l : Fin 512) : k0_pay9 (F := Ideal) (ix2 0 l) = 0 := by pointwise [k0_pay9]
theorem start_s2 (l : Fin 512) : k0_pay10 (F := Ideal) (ix2 0 l) = 0 := by pointwise [k0_pay10]
theorem start_zt (r : Fin 8) (l : Fin 512) : k0_pay11 (F := Ideal) (ix2 r l) = 0 := by pointwise [k0_pay11]

/-- What the five scratch arrays hold, in a column, after the first `b` rows of the vocabulary. -/
def Holds (n : Fin 2560) (l : Fin 512) (b : Nat) (mx s0 s1 s2 : Vec Ideal S1x512 .f32) (zt : Vec Ideal S8x512 .f32) : Prop :=
  Inv (zk m c n) b (mx (ix2 0 l)) (s0 (ix2 0 l)) (s1 (ix2 0 l)) (s2 (ix2 0 l)) ∧ ∀ r : Fin 8, zt (ix2 r l) = ztAt m c n r b

/-- One grid point's update of the five scratch arrays. -/
theorem holds_step (hpre : Pre_KernelIdeal_targets_in_range m) (t : Fin cfg0.N) (l : Fin 512) (mx s0 s1 s2 : Vec Ideal S1x512 .f32) (zt : Vec Ideal S8x512 .f32)
    (h : Holds m c (tok t l) l (640 * (t.val % 25)) mx s0 s1 s2 zt) :
    Holds m c (tok t l) l (640 * (t.val % 25 + 1))
      (mN (F := Ideal) (iblk m c 0 t) (iblk m c 1 t) (iblk m c 2 t) (iblk m c 3 t) mx)
      (s0N (F := Ideal) (iblk m c 0 t) (iblk m c 1 t) (iblk m c 2 t) (iblk m c 3 t) mx s0)
      (s1N (F := Ideal) (iblk m c 0 t) (iblk m c 1 t) (iblk m c 2 t) (iblk m c 3 t) mx s0 s1)
      (s2N (F := Ideal) (iblk m c 0 t) (iblk m c 1 t) (iblk m c 2 t) (iblk m c 3 t) mx s0 s1 s2)
      (ztStep (F := Ideal) (BitVec.ofNat 32 ((grid0.coords t) 1).val) (iblk m c 0 t) (iblk m c 1 t) (iblk m c 2 t) (iblk m c 3 t) (iblk m c 4 t) zt) :=
  ⟨inv_step m c t l mx s0 s1 s2 h.1, fun r => zt_step m c hpre t r l zt (h.2 r)⟩

/-- Before the first block. -/
theorem holds_start (n : Fin 2560) (l : Fin 512) : Holds m c n l 0 (k0_pay7 (F := Ideal)) (k0_pay8 (F := Ideal)) (k0_pay9 (F := Ideal))
    (k0_pay10 (F := Ideal)) (k0_pay11 (F := Ideal)) := by
  refine ⟨?_, fun r => ?_⟩
  · rw [start_m, start_s0, start_s1, start_s2]; exact Inv.start _
  · rw [start_zt]; unfold ztAt; rw [if_neg (by omega)]

/-- The scratch a grid point leaves. -/
def HoldsAt (t : Fin cfg0.N) (l : Fin 512) : Prop :=
  Holds m c (tok t l) l (640 * (t.val % 25 + 1)) (outsAt0 m c t.val t.isLt).2.2.2.1 (outsAt0 m c t.val t.isLt).2.2.2.2.1
    (outsAt0 m c t.val t.isLt).2.2.2.2.2.1 (outsAt0 m c t.val t.isLt).2.2.2.2.2.2.1 (outsAt0 m c t.val t.isLt).2.2.2.2.2.2.2

theorem holds_A (hpre : Pre_KernelIdeal_targets_in_range m) (t : Fin cfg0.N) (l : Fin 512) (h0 : t.val % 25 = 0) (h1 : ¬t.val % 25 = 24) : HoldsAt m c t l := by
  unfold HoldsAt
  rw [outsAt0_A m c t h0 h1]
  dsimp only
  rw [sout0_A_0_eq, sout0_A_1_eq, sout0_A_2_eq, sout0_A_3_eq, sout0_A_4_eq]
  refine holds_step m c hpre t l _ _ _ _ _ ?_
  rw [h0]
  exact holds_start m c _ l

/-- The point before. -/
def prev (t : Fin cfg0.N) : Fin cfg0.N := ⟨t.val - 1, Nat.lt_of_le_of_lt (Nat.sub_le _ _) t.isLt⟩

theorem holds_prev (t : Fin cfg0.N) (l : Fin 512) (h0 : ¬t.val % 25 = 0) (ih : HoldsAt m c (prev t) l) :
    Holds m c (tok t l) l (640 * (t.val % 25)) (outsAt0 m c (prev t).val (prev t).isLt).2.2.2.1 (outsAt0 m c (prev t).val (prev t).isLt).2.2.2.2.1
      (outsAt0 m c (prev t).val (prev t).isLt).2.2.2.2.2.1 (outsAt0 m c (prev t).val (prev t).isLt).2.2.2.2.2.2.1
      (outsAt0 m c (prev t).val (prev t).isLt).2.2.2.2.2.2.2 := by
  have e1 : tok (prev t) l = tok t l := Fin.ext (by
    show 512 * ((t.val - 1) / 25) + l.val = 512 * (t.val / 25) + l.val; omega)
  have e2 : (prev t).val % 25 + 1 = t.val % 25 := by show (t.val - 1) % 25 + 1 = t.val % 25; omega
  unfold HoldsAt at ih
  rw [e1, e2] at ih
  exact ih

theorem holds_B (hpre : Pre_KernelIdeal_targets_in_range m) (t : Fin cfg0.N) (l : Fin 512) (h0 : ¬t.val % 25 = 0) (h1 : ¬t.val % 25 = 24) (ih : HoldsAt m c (prev t) l) : HoldsAt m c t l := by
  unfold HoldsAt
  rw [outsAt0_B m c t h0 h1]
  dsimp only
  rw [sout0_B_0_eq, sout0_B_1_eq, sout0_B_2_eq, sout0_B_3_eq, sout0_B_4_eq]
  exact holds_step m c hpre t l _ _ _ _ _ (holds_prev m c t l h0 ih)

theorem holds_C (hpre : Pre_KernelIdeal_targets_in_range m) (t : Fin cfg0.N) (l : Fin 512) (h0 : ¬t.val % 25 = 0) (h1 : t.val % 25 = 24) (ih : HoldsAt m c (prev t) l) : HoldsAt m c t l := by
  unfold HoldsAt
  rw [outsAt0_C m c t h0 h1]
  dsimp only
  rw [sout0_C_0_eq, sout0_C_1_eq, sout0_C_2_eq, sout0_C_3_eq, sout0_C_4_eq]
  exact holds_step m c hpre t l _ _ _ _ _ (holds_prev m c t l h0 ih)

/-- What every grid point leaves in the scratch. -/
theorem holds (hpre : Pre_KernelIdeal_targets_in_range m) (l : Fin 512) : ∀ (n : Nat) (hn : n < cfg0.N), HoldsAt m c ⟨n, hn⟩ l := by
  intro n
  induction n with
  | zero => exact fun hn => holds_A m c hpre ⟨0, hn⟩ l (Nat.zero_mod _) (by show ¬ 0 % 25 = 24; decide)
  | succ n ih =>
    intro hn
    by_cases h0 : (n + 1) % 25 = 0
    · exact holds_A m c hpre ⟨n + 1, hn⟩ l h0 (by show ¬ (n + 1) % 25 = 24; omega)
    · by_cases h1 : (n + 1) % 25 = 24
      · exact holds_C m c hpre ⟨n + 1, hn⟩ l h0 h1 (ih (Nat.lt_of_succ_lt hn))
      · exact holds_B m c hpre ⟨n + 1, hn⟩ l h0 h1 (ih (Nat.lt_of_succ_lt hn))

/-- The three outputs a column's last grid point writes, of the scratch it leaves. -/
theorem outs_C (t : Fin cfg0.N) (h1 : t.val % 25 = 24) :
    (outsAt0 m c t.val t.isLt).1 = k0_pay4 (outsAt0 m c t.val t.isLt).2.2.2.2.1 (outsAt0 m c t.val t.isLt).2.2.2.2.2.1
    ∧ (outsAt0 m c t.val t.isLt).2.1 = k0_pay5 (outsAt0 m c t.val t.isLt).2.2.2.2.1 (outsAt0 m c t.val t.isLt).2.2.2.2.2.1 (outsAt0 m c t.val t.isLt).2.2.2.2.2.2.1
    ∧ (outsAt0 m c t.val t.isLt).2.2.1 = k0_pay6 (outsAt0 m c t.val t.isLt).2.2.2.2.1 (outsAt0 m c t.val t.isLt).2.2.2.2.2.2.2 (outsAt0 m c t.val t.isLt).2.2.2.1 := by
  have h0 : ¬t.val % 25 = 0 := by omega
  rw [outsAt0_C m c t h0 h1]
  dsimp only
  rw [sout0_C_0_eq, sout0_C_1_eq, sout0_C_2_eq, sout0_C_3_eq, sout0_C_4_eq, out0_C_5_eq, out0_C_6_eq, out0_C_7_eq]
  exact ⟨rfl, rfl, rfl⟩

/-- The greatest logit of a token. -/
def zmax (n : Fin 2560) : EReal := Finset.univ.sup (zr m c n)

/-- WHAT A COLUMN'S LAST GRID POINT WRITES: the reference's three quantities of the token's logits. -/
theorem written (hpre : Pre_KernelIdeal_targets_in_range m) (t : Fin cfg0.N) (h1 : t.val % 25 = 24) (l : Fin 512) :
    (outsAt0 m c t.val t.isLt).1 (ix2 0 l) = rH (zr m c (tok t l)) (zmax m c (tok t l))
    ∧ (outsAt0 m c t.val t.isLt).2.1 (ix2 0 l) = rV (zr m c (tok t l)) (zmax m c (tok t l))
    ∧ ∀ r : Fin 8, (outsAt0 m c t.val t.isLt).2.2.1 (ix2 r l)
        = rLogp (zr m c (tok t l)) (zmax m c (tok t l)) ⟨(V m c main_v2 (ix2 r (tok t l))).toNat, pre_pad m c hpre r _⟩ := by
  obtain ⟨e5, e6, e7⟩ := outs_C m c t h1
  have hh : HoldsAt m c t l := holds m c hpre l t.val t.isLt
  unfold HoldsAt at hh
  obtain ⟨hi, hz⟩ := hh
  have e16 : 640 * (t.val % 25 + 1) = 16000 := by omega
  rw [e16] at hi hz
  obtain ⟨f5, f6, f7⟩ := Inv.finish (zk_eq m c (tok t l)) hi
  refine ⟨?_, ?_, fun r => ?_⟩
  · rw [e5, out5_apply]; exact f5
  · rw [e6, out6_apply]; exact f6
  · have hT := pre_pad m c hpre r (tok t l)
    rw [e7, out7_apply, hz r]
    unfold ztAt
    rw [if_pos hT]
    refine (f7 _).trans (congrArg (rLogp _ _) (Fin.ext (Nat.mod_eq_of_lt hT)))

end

end Cert.Head

end
-- ==== Proof.Result.lean ====
/- The head's three result arrays after its run, at an index. -/
module

public import proofs.«01_k».proof.Proof.Fold

@[expose] public section

set_option maxRecDepth 16384

noncomputable section

namespace Cert.Head

open Cert.KernelIdeal Cert.KernelIdeal.Gen Idealize.ShloMosaic Idealize.ShloMosaic.TcCoe Idealize.SL.Sem

/-- The token of a batch entry and a position. -/
def tokenOf (b s : Nat) : Fin 2560 := ⟨(1280 * b + s) % 2560, Nat.mod_lt _ (by decide)⟩

section
variable (a0 : Vec Ideal S2560x16384 .fp8e4m3) (a1 : Vec Ideal S16000x16384 .fp8e4m3) (a2 : Vec Ideal S16000 .f32) (a3 : Vec Ideal S2560x1 .f32)
  (a4 : Vec Ideal S2x1280x7 .i32)

/-- The entropy of every token, of the program's arguments. -/
def resH : Vec Ideal S2x1280 .f32 := fun i =>
  rH (zrOf a0 a1 a2 a3 (tokenOf (i 0).val (i 1).val)) (Finset.univ.sup (zrOf a0 a1 a2 a3 (tokenOf (i 0).val (i 1).val)))

/-- The varentropy of every token. -/
def resV : Vec Ideal S2x1280 .f32 := fun i =>
  rV (zrOf a0 a1 a2 a3 (tokenOf (i 0).val (i 1).val)) (Finset.univ.sup (zrOf a0 a1 a2 a3 (tokenOf (i 0).val (i 1).val)))

/-- The log probability of every target of every token. -/
def resT : Vec Ideal S2x1280x7 .f32 := fun i =>
  rLogp (zrOf a0 a1 a2 a3 (tokenOf (i 0).val (i 1).val)) (Finset.univ.sup (zrOf a0 a1 a2 a3 (tokenOf (i 0).val (i 1).val)))
    ⟨(a4 i).toNat % 16000, Nat.mod_lt _ (by decide)⟩
end

variable (m : (ℓ : Loc nD τ sig) → Buf (Elt Ideal) ℓ)

/-- A column of a block of tokens is the token it stands for. -/
theorem tok_eq (t : Fin cfg0.N) (l : Fin 512) (n : Fin 2560) (h : n.val = 512 * (t.val / 25) + l.val) : tok t l = n := Fin.ext h.symm

/-- The array of entropies the region leaves. -/
def out5 (c : Dev nD) : Vec Ideal S1x2560 .f32 := fun i => rH (zr m c ⟨(i 1).val, (i 1).isLt⟩) (zmax m c ⟨(i 1).val, (i 1).isLt⟩)
/-- The array of varentropies. -/
def out6 (c : Dev nD) : Vec Ideal S1x2560 .f32 := fun i => rV (zr m c ⟨(i 1).val, (i 1).isLt⟩) (zmax m c ⟨(i 1).val, (i 1).isLt⟩)
/-- The array of log probabilities, one padded target row after the other. -/
def out7 (c : Dev nD) : Vec Ideal S8x2560 .f32 := fun i => rLogp (zr m c ⟨(i 1).val, (i 1).isLt⟩) (zmax m c ⟨(i 1).val, (i 1).isLt⟩)
  ⟨(V m c main_v2 i).toNat % 16000, Nat.mod_lt _ (by decide)⟩

/-- What a column's last point writes, at an index of its block, is the array at the index the block puts it at. -/
theorem put5 (hpre : Pre_KernelIdeal_targets_in_range m) (c : Dev nD) (t : Fin cfg0.N) (h1 : t.val % 25 = 24) (y : S1x512.Idx) (j : S1x2560.Idx)
    (hj : (j 1).val = 512 * (t.val / 25) + (y 1).val) : (outsAt0 m c t.val t.isLt).1 y = out5 m c j := by
  obtain ⟨r, l, rfl⟩ : ∃ (r : Fin 1) (l : Fin 512), y = ix2 r l := ⟨y 0, y 1, ValueIdx.eq_ix2 y⟩
  obtain rfl : r = 0 := Subsingleton.elim _ _
  rw [(written m c hpre t h1 l).1]
  unfold out5
  rw [tok_eq t l ⟨(j 1).val, (j 1).isLt⟩ hj]

theorem put6 (hpre : Pre_KernelIdeal_targets_in_range m) (c : Dev nD) (t : Fin cfg0.N) (h1 : t.val % 25 = 24) (y : S1x512.Idx) (j : S1x2560.Idx)
    (hj : (j 1).val = 512 * (t.val / 25) + (y 1).val) : (outsAt0 m c t.val t.isLt).2.1 y = out6 m c j := by
  obtain ⟨r, l, rfl⟩ : ∃ (r : Fin 1) (l : Fin 512), y = ix2 r l := ⟨y 0, y 1, ValueIdx.eq_ix2 y⟩
  obtain rfl : r = 0 := Subsingleton.elim _ _
  rw [(written m c hpre t h1 l).2.1]
  unfold out6
  rw [tok_eq t l ⟨(j 1).val, (j 1).isLt⟩ hj]

theorem put7 (hpre : Pre_KernelIdeal_targets_in_range m) (c : Dev nD) (t : Fin cfg0.N) (h1 : t.val % 25 = 24) (y : S8x512.Idx) (j : S8x2560.Idx)
    (h0 : (j 0).val = (y 0).val) (hj : (j 1).val = 512 * (t.val / 25) + (y 1).val) : (outsAt0 m c t.val t.isLt).2.2.1 y = out7 m c j := by
  obtain ⟨r, l, rfl⟩ : ∃ (r : Fin 8) (l : Fin 512), y = ix2 r l := ⟨y 0, y 1, ValueIdx.eq_ix2 y⟩
  rw [(written m c hpre t h1 l).2.2 r]
  obtain ⟨r', n, rfl⟩ : ∃ (r' : Fin 8) (n : Fin 2560), j = ix2 r' n := ⟨j 0, j 1, ValueIdx.eq_ix2 j⟩
  obtain rfl : r' = r := Fin.ext h0
  obtain rfl : tok t l = n := tok_eq t l n hj
  exact congrArg (rLogp _ _) (Fin.ext (Nat.mod_eq_of_lt (pre_pad m c hpre r' _)).symm)

theorem arr5 (hpre : Pre_KernelIdeal_targets_in_range m) (c : Dev nD) : (dats m 0 c).arrAt 5 cfg0.N = out5 m c := by
  refine (dats m 0 c).arrAt_eq_of_covers 5 _ (by decide +kernel) fun t hf y => ?_
  have e := (idx t).2.2.2.2.2.1
  blk_simp
  rw [after0_5]
  refine put5 m hpre c t ((flush0_5 t).mp hf) y _ ?_
  blk_simp [e]
  simp
  omega

theorem arr6 (hpre : Pre_KernelIdeal_targets_in_range m) (c : Dev nD) : (dats m 0 c).arrAt 6 cfg0.N = out6 m c := by
  refine (dats m 0 c).arrAt_eq_of_covers 6 _ (by decide +kernel) fun t hf y => ?_
  have e := (idx t).2.2.2.2.2.2.1
  blk_simp
  rw [after0_6]
  refine put6 m hpre c t ((flush0_6 t).mp hf) y _ ?_
  blk_simp [e]
  simp
  omega

theorem arr7 (hpre : Pre_KernelIdeal_targets_in_range m) (c : Dev nD) : (dats m 0 c).arrAt 7 cfg0.N = out7 m c := by
  refine (dats m 0 c).arrAt_eq_of_covers 7 _ (by decide +kernel) fun t hf y => ?_
  have e := (idx t).2.2.2.2.2.2.2
  blk_simp
  rw [after0_7]
  refine put7 m hpre c t ((flush0_7 t).mp hf) y _ ?_ ?_
  · blk_simp [e]
  · blk_simp [e]
    simp
    omega

/-- The first result is the first output, reshaped. -/
theorem tail6 (c : Dev nD) : Pipeline.afterTail₀ cfgs (dats m) 0 (V0 m) [hostOps1] c main_v6
    = shapeCast S2x1280 ((dats m 0 c).arrAt 5 cfg0.N : Vec Ideal S1x2560 .f32) shapeCasts_S1x2560_S2x1280 := by
  unfold Pipeline.afterTail₀
  have e := Pipeline.withArrays_arr (cfgs 0).spec (by decide) c (V0 m c) (fun w => (dats m 0 c).arrAt w (cfgs 0).N) 5
  generalize Pipeline.withArrays (cfgs 0).spec c (V0 m c) (fun w => (dats m 0 c).arrAt w (cfgs 0).N) = W at e ⊢
  show StableHlo.after hostOps1 W (Proc.devRef .tc main_v6) = _
  after_results
  exact congrArg (fun X : Vec Ideal S1x2560 .f32 => shapeCast S2x1280 X shapeCasts_S1x2560_S2x1280) e

/-- The second is the second, -/
theorem tail7 (c : Dev nD) : Pipeline.afterTail₀ cfgs (dats m) 0 (V0 m) [hostOps1] c main_v7
    = shapeCast S2x1280 ((dats m 0 c).arrAt 6 cfg0.N : Vec Ideal S1x2560 .f32) shapeCasts_S1x2560_S2x1280 := by
  unfold Pipeline.afterTail₀
  have e := Pipeline.withArrays_arr (cfgs 0).spec (by decide) c (V0 m c) (fun w => (dats m 0 c).arrAt w (cfgs 0).N) 6
  generalize Pipeline.withArrays (cfgs 0).spec c (V0 m c) (fun w => (dats m 0 c).arrAt w (cfgs 0).N) = W at e ⊢
  show StableHlo.after hostOps1 W (Proc.devRef .tc main_v7) = _
  after_results
  exact congrArg (fun X : Vec Ideal S1x2560 .f32 => shapeCast S2x1280 X shapeCasts_S1x2560_S2x1280) e

/-- and the third is the third's first seven rows, transposed and reshaped. -/
theorem tail10 (c : Dev nD) : Pipeline.afterTail₀ cfgs (dats m) 0 (V0 m) [hostOps1] c main_v10
    = shapeCast S2x1280x7 (transpose S2560x7 [1, 0] (extractStridedSlice S7x2560 ![0, 0] ((dats m 0 c).arrAt 7 cfg0.N : Vec Ideal S8x2560 .f32) slices_S8x2560_S7x2560_0_0) transposes_S7x2560_S2560x7_1_0) shapeCasts_S2560x7_S2x1280x7 := by
  unfold Pipeline.afterTail₀
  have e := Pipeline.withArrays_arr (cfgs 0).spec (by decide) c (V0 m c) (fun w => (dats m 0 c).arrAt w (cfgs 0).N) 7
  generalize Pipeline.withArrays (cfgs 0).spec c (V0 m c) (fun w => (dats m 0 c).arrAt w (cfgs 0).N) = W at e ⊢
  show StableHlo.after hostOps1 W (Proc.devRef .tc main_v10) = _
  after_results
  exact congrArg (fun X : Vec Ideal S8x2560 .f32 => shapeCast S2x1280x7 (transpose S2560x7 [1, 0] (extractStridedSlice S7x2560 ![0, 0] X slices_S8x2560_S7x2560_0_0) transposes_S7x2560_S2560x7_1_0) shapeCasts_S2560x7_S2x1280x7) e

theorem token_eq (b : Fin 2) (s : Fin 1280) (h : b.val * 1280 + s.val < 2560) : (⟨b.val * 1280 + s.val, h⟩ : Fin 2560) = tokenOf b.val s.val :=
  Fin.ext (by show b.val * 1280 + s.val = (1280 * b.val + s.val) % 2560; omega)

/-- The arrays the region leaves, read through the reshapes after it. -/
theorem res6 (c : Dev nD) :
    shapeCast S2x1280 (out5 m c) shapeCasts_S1x2560_S2x1280 = resH (m ((c.tc : Thread nD τ).loc main_arg0)) (m ((c.tc : Thread nD τ).loc main_arg1)) (m ((c.tc : Thread nD τ).loc main_arg2)) (m ((c.tc : Thread nD τ).loc main_arg3)) := by
  funext i
  obtain ⟨b, s, rfl⟩ : ∃ (b : Fin 2) (s : Fin 1280), i = ix2 b s := ⟨i 0, i 1, ValueIdx.eq_ix2 i⟩
  pointwise []
  have e := token_eq b s (by omega)
  show rH (zr m c ⟨b.val * 1280 + s.val, _⟩) (zmax m c ⟨b.val * 1280 + s.val, _⟩) = rH (zr m c (tokenOf b.val s.val)) (zmax m c (tokenOf b.val s.val))
  rw [e]

theorem res7 (c : Dev nD) :
    shapeCast S2x1280 (out6 m c) shapeCasts_S1x2560_S2x1280 = resV (m ((c.tc : Thread nD τ).loc main_arg0)) (m ((c.tc : Thread nD τ).loc main_arg1)) (m ((c.tc : Thread nD τ).loc main_arg2)) (m ((c.tc : Thread nD τ).loc main_arg3)) := by
  funext i
  obtain ⟨b, s, rfl⟩ : ∃ (b : Fin 2) (s : Fin 1280), i = ix2 b s := ⟨i 0, i 1, ValueIdx.eq_ix2 i⟩
  pointwise []
  have e := token_eq b s (by omega)
  show rV (zr m c ⟨b.val * 1280 + s.val, _⟩) (zmax m c ⟨b.val * 1280 + s.val, _⟩) = rV (zr m c (tokenOf b.val s.val)) (zmax m c (tokenOf b.val s.val))
  rw [e]

theorem res10 (c : Dev nD) :
    shapeCast S2x1280x7 (transpose S2560x7 [1, 0] (extractStridedSlice S7x2560 ![0, 0] (out7 m c) slices_S8x2560_S7x2560_0_0) transposes_S7x2560_S2560x7_1_0) shapeCasts_S2560x7_S2x1280x7
      = resT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  funext i
  obtain ⟨b, s, j, rfl⟩ : ∃ (b : Fin 2) (s : Fin 1280) (j : Fin 7), i = ix3 b s j := ⟨i 0, i 1, i 2, ValueIdx.eq_ix3 i⟩
  pointwise []
  have e := token_eq b s (by omega)
  have hj : j.val < 8 := by omega
  have et : V m c main_v2 (ix2 (⟨j.val, hj⟩ : Fin 8) (tokenOf b.val s.val)) = m ((c.tc : Thread nD τ).loc main_arg4) (ix3 b s j) := by
    rw [V2']
    refine (tgtPad_lt _ (⟨j.val, hj⟩ : Fin 8) _ j.isLt).trans (congrArg (m ((c.tc : Thread nD τ).loc main_arg4)) ?_)
    refine funext fun a => ?_
    match a with
    | ⟨0, _⟩ => exact Fin.ext (show ((1280 * b.val + s.val) % 2560) / 1280 = b.val by omega)
    | ⟨1, _⟩ => exact Fin.ext (show ((1280 * b.val + s.val) % 2560) % 1280 = s.val by omega)
    | ⟨2, _⟩ => rfl
  have ef : (⟨(V m c main_v2 (ix2 (⟨j.val, hj⟩ : Fin 8) (tokenOf b.val s.val))).toNat % 16000, Nat.mod_lt _ (by decide)⟩ : Fin 16000)
      = ⟨(m ((c.tc : Thread nD τ).loc main_arg4) (ix3 b s j) : BitVec 32).toNat % 16000, Nat.mod_lt _ (by decide)⟩ := Fin.ext (congrArg (fun w : BitVec 32 => w.toNat % 16000) et)
  show rLogp (zr m c ⟨b.val * 1280 + s.val, _⟩) (zmax m c ⟨b.val * 1280 + s.val, _⟩) _ = rLogp (zr m c (tokenOf b.val s.val)) (zmax m c (tokenOf b.val s.val)) _
  rw [e]
  exact congrArg _ ef

/-- THE HEAD'S RUN: its three results are the entropy, the varentropy and the target log probabilities of every token's logits. -/
theorem head_run (hpre : Pre_KernelIdeal_targets_in_range m) (g : Dev nD → PrngReg) :
    θ_run (defs (F := Ideal)) (onTc (τ := τ) (main (F := Ideal))) ⟨m, fun _ => 0, g⟩ (fun r => ∀ c : Dev nD,
      r.2.mem ((c.tc : Thread nD τ).loc main_v6) = resH (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v7) = resV (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v10) = resT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine θ_run_mono (θ_run_and (Gen.run_main m g) (Gen.unchanged m g)) fun r hr c => ?_
  obtain ⟨h, hu⟩ := hr
  refine ⟨((h c).2 main_v6 (by decide)).trans ?_, ((h c).2 main_v7 (by decide)).trans ?_, ((h c).2 main_v10 (by decide)).trans ?_, hu c⟩
  · rw [tail6, arr5 m hpre]; exact res6 m c
  · rw [tail7, arr6 m hpre]; exact res7 m c
  · rw [tail10, arr7 m hpre]; exact res10 m c

end Cert.Head

end
-- ==== Proof.RefRun.lean ====
/- The head's reference, run: its results are the entropy, the varentropy and the target log probabilities too. -/
module

public import proofs.«01_k».proof.Proof.RefValue
public import proofs.«01_k».proof.Proof.Result

@[expose] public section

set_option maxRecDepth 16384

noncomputable section

namespace Cert.Ref

open Cert.ReferenceIdeal Cert.ReferenceIdeal.Gen Idealize.ShloMosaic Idealize.ShloMosaic.TcCoe Idealize.SL.Sem
open Cert.Head (zrOf tokenOf resH resV resT rLogp rH rV rSum)

section
variable (a0 : Vec Ideal S2560x16384 .fp8e4m3) (a1 : Vec Ideal S16000x16384 .fp8e4m3) (a2 : Vec Ideal S16000 .f32) (a3 : Vec Ideal S2560x1 .f32)
  (a4 : Vec Ideal S2x1280x7 .i32)

/-- The reference's logits. -/
def zA : FVec Ideal S2x1280x16000 .f32 := zArr (F := Ideal) (accOf a0 a1) a2 a3

theorem row_eq (b : Fin 2) (q : Fin 1280) : row (zA a0 a1 a2 a3) b q = zrOf a0 a1 a2 a3 (tokenOf b.val q.val) := by
  funext v
  refine (zArr_apply b q v (accOf a0 a1) a2 a3).trans ?_
  have e : (⟨b.val * 1280 + q.val, by omega⟩ : Fin 2560) = tokenOf b.val q.val :=
    Fin.ext (by show b.val * 1280 + q.val = (1280 * b.val + q.val) % 2560; omega)
  rw [e]
  rfl

theorem ent_eq : ent (zA a0 a1 a2 a3) (lsm (zA a0 a1 a2 a3)) = resH a0 a1 a2 a3 := by
  funext i
  obtain ⟨b, q, rfl⟩ : ∃ (b : Fin 2) (q : Fin 1280), i = ix2 b q := ⟨i 0, i 1, ValueIdx.eq_ix2 i⟩
  rw [ent_apply]
  unfold top
  rw [row_eq]
  rfl

theorem vent_eq : vent (zA a0 a1 a2 a3) (lsm (zA a0 a1 a2 a3)) = resV a0 a1 a2 a3 := by
  funext i
  obtain ⟨b, q, rfl⟩ : ∃ (b : Fin 2) (q : Fin 1280), i = ix2 b q := ⟨i 0, i 1, ValueIdx.eq_ix2 i⟩
  rw [vent_apply]
  unfold top
  rw [row_eq]
  rfl

theorem take_eq (h : ∀ i : S2x1280x7.Idx, (a4 i : BitVec 32).toNat < 16000) :
    takeT (lsm (zA a0 a1 a2 a3)) a4 = resT a0 a1 a2 a3 a4 := by
  funext i
  obtain ⟨b, q, j, rfl⟩ : ∃ (b : Fin 2) (q : Fin 1280) (j : Fin 7), i = ix3 b q j := ⟨i 0, i 1, i 2, ValueIdx.eq_ix3 i⟩
  rw [takeT_apply _ b q a4 j (h _), lsm_apply]
  unfold top
  rw [row_eq]
  rfl
end

variable (m : (ℓ : Loc nD τ sig) → Buf (Elt Ideal) ℓ)

/-- What the region and the host operations after it leave in a buffer. -/
abbrev endOf (c : Dev nD) (b : Ref sig .tc) : Buf (Elt Ideal) ((c.tc : Thread nD τ).loc b) :=
  Pipeline.afterTail₀ cfgs (dats m) 0 (V0 m) [hostOps1, hostOps1_1, hostOps1_2, hostOps1_3] c b

/-- The buffers as the region leaves them. -/
def Wr (c : Dev nD) : Valuation τ sig (Elt Ideal) :=
  Pipeline.withArrays (cfgs 0).spec c (V0 m c) (fun w => (dats m 0 c).arrAt w (cfgs 0).N)

theorem Wr0 (c : Dev nD) : Wr m c (Proc.devRef .tc main_v0) = accOf (m ((c.tc : Thread nD τ).loc main_arg0)) (m ((c.tc : Thread nD τ).loc main_arg1)) :=
  (Pipeline.withArrays_arr (cfgs 0).spec (by decide) c (V0 m c) (fun w => (dats m 0 c).arrAt w (cfgs 0).N) 2).trans (arr2 m c)
theorem Wr2 (c : Dev nD) : Wr m c (Proc.devRef .tc main_arg2) = m ((c.tc : Thread nD τ).loc main_arg2) :=
  (Pipeline.withArrays_of_ne _ c (V0 m c) _ main_arg2 (by exact (by decide : ∀ w, Pipeline.arrRef spec0 w ≠ main_arg2))).trans (V_main_arg2 m c)
theorem Wr3 (c : Dev nD) : Wr m c (Proc.devRef .tc main_arg3) = m ((c.tc : Thread nD τ).loc main_arg3) :=
  (Pipeline.withArrays_of_ne _ c (V0 m c) _ main_arg3 (by exact (by decide : ∀ w, Pipeline.arrRef spec0 w ≠ main_arg3))).trans (V_main_arg3 m c)
theorem Wr4 (c : Dev nD) : Wr m c (Proc.devRef .tc main_arg4) = m ((c.tc : Thread nD τ).loc main_arg4) :=
  (Pipeline.withArrays_of_ne _ c (V0 m c) _ main_arg4 (by exact (by decide : ∀ w, Pipeline.arrRef spec0 w ≠ main_arg4))).trans (V_main_arg4 m c)

theorem zW_eq (c : Dev nD) : zW (Wr m c) = zA (m ((c.tc : Thread nD τ).loc main_arg0)) (m ((c.tc : Thread nD τ).loc main_arg1)) (m ((c.tc : Thread nD τ).loc main_arg2)) (m ((c.tc : Thread nD τ).loc main_arg3)) := by
  unfold zW zA
  rw [Wr0, Wr2, Wr3]

theorem end22 (c : Dev nD) : endOf m c main_v22 = resH (m ((c.tc : Thread nD τ).loc main_arg0)) (m ((c.tc : Thread nD τ).loc main_arg1)) (m ((c.tc : Thread nD τ).loc main_arg2)) (m ((c.tc : Thread nD τ).loc main_arg3)) :=
  (all22 (Wr m c)).trans (by rw [zW_eq]; exact ent_eq _ _ _ _)
theorem end29 (c : Dev nD) : endOf m c main_v29 = resV (m ((c.tc : Thread nD τ).loc main_arg0)) (m ((c.tc : Thread nD τ).loc main_arg1)) (m ((c.tc : Thread nD τ).loc main_arg2)) (m ((c.tc : Thread nD τ).loc main_arg3)) :=
  (all29 (Wr m c)).trans (by rw [zW_eq]; exact vent_eq _ _ _ _)
theorem end30 (c : Dev nD) (h : ∀ i : S2x1280x7.Idx, (m ((c.tc : Thread nD τ).loc main_arg4) i : BitVec 32).toNat < 16000) :
    endOf m c main_v30 = resT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (all30 (Wr m c)).trans (by rw [zW_eq, Wr4]; exact take_eq _ _ _ _ _ h)

/-- THE REFERENCE'S RUN: its three results are the entropy, the varentropy and the target log probabilities of every token's logits. -/
theorem ref_run (h : ∀ (c : Dev nD) (i : S2x1280x7.Idx), (m ((c.tc : Thread nD τ).loc main_arg4) i : BitVec 32).toNat < 16000) (g : Dev nD → PrngReg) :
    θ_run (defs (F := Ideal)) (onTc (τ := τ) (main (F := Ideal))) ⟨m, fun _ => 0, g⟩ (fun r => ∀ c : Dev nD,
      r.2.mem ((c.tc : Thread nD τ).loc main_v22) = resH (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v29) = resV (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v30) = resT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine θ_run_mono (θ_run_and (run_main m g) (unchanged m g)) fun r hr c => ?_
  obtain ⟨hp, hu⟩ := hr
  exact ⟨((hp c).2 main_v22 (by decide)).trans (end22 m c), ((hp c).2 main_v29 (by decide)).trans (end29 m c),
    ((hp c).2 main_v30 (by decide)).trans (end30 m c (h c)), hu c⟩

end Cert.Ref

end
-- ==== Proof.HeadClaim.lean ====
/- The head's claim: its run and its reference's run end with equal results. -/
module

public import proofs.«01_k».proof.Proof.RefRun
public import Idealize.ShloMosaic.Lib.Claim

@[expose] public section

noncomputable section

namespace Cert.Head

open Idealize.ShloMosaic Idealize.ShloMosaic.TcCoe Idealize.SL.Sem

/-- THE HEAD'S CLAIM: over the extended reals the head and its reference end with equal entropies, varentropies and target log probabilities. -/
theorem algebraic_head : Cert.algebraic_KernelIdeal_ReferenceIdeal_pre_targets_in_range := by
  intro m g m' g' hpre hagree
  refine ⟨_, _, _, head_run m hpre g, ?_⟩
  have ht : ∀ (c : Dev Cert.ReferenceIdeal.nD) (i : Cert.ReferenceIdeal.S2x1280x7.Idx),
      (m' ((c.tc : Thread Cert.ReferenceIdeal.nD Cert.ReferenceIdeal.τ).loc Cert.ReferenceIdeal.main_arg4) i : BitVec 32).toNat < 16000 := fun c i => by
    rw [(hagree c).2.2.2.2]
    exact pre_tgt m c hpre i
  refine θ_run_mono (Cert.Ref.ref_run m' ht g') fun r h c => ?_
  obtain ⟨h0, h1, h2, hu⟩ := h c
  obtain ⟨e0, e1, e2, e3, e4⟩ := hagree c
  rw [e0, e1, e2, e3] at h0 h1 h2
  rw [e4] at h2
  exact ⟨h0, h1, h2, hu⟩

end Cert.Head

end
-- ==== Proof.QuantMath.lean ====
/-
  The quantiser's scale over the extended reals, with no program in sight: the count of the powers of two
  not above `y` and the words made of it, against `2 ^ (⌊log₂ y⌋ + 1)`.
-/
module

public import proofs.«01_k».proof.Proof.Finish
public import Idealize.ShloMosaic.PureOps.Reduce

@[expose] public section

noncomputable section

namespace Cert.Quant

open Idealize.ShloMosaic

/-- The number whose exponent field is the word `w` and whose mantissa is zero. -/
def powOf (w : BitVec 32) : EReal := Ideal.ofBits .f32 (IntOp.shli .vector w 23#32)

theorem fields : ∀ n : Fin 256, (IntOp.shli .vector (BitVec.ofNat 32 n.val) 23#32).extractLsb' 31 1 = 0#1
    ∧ ((IntOp.shli .vector (BitVec.ofNat 32 n.val) 23#32).extractLsb' 23 8).toNat = n.val
    ∧ ((IntOp.shli .vector (BitVec.ofNat 32 n.val) 23#32).extractLsb' 0 23).toNat = 0 := by decide +kernel

/-- The exponent field 0 is the number zero, -/
theorem powOf_zero : powOf (BitVec.ofNat 32 0) = 0 := by
  obtain ⟨h1, h2, h3⟩ := fields 0
  unfold powOf Ideal.ofBits Ideal.ieee
  simp only [show (8 + 23 : ℕ) = 31 from rfl, h1, h2, h3, show BitVec.ofNat 32 (0 : Fin 256).val = BitVec.ofNat 32 0 from rfl] at *
  simp [h1, h2, h3]

/-- the exponent field 255 infinity, -/
theorem powOf_top : powOf (BitVec.ofNat 32 255) = ⊤ := by
  obtain ⟨h1, h2, h3⟩ := fields 255
  unfold powOf Ideal.ofBits Ideal.ieee
  simp only [show BitVec.ofNat 32 (255 : Fin 256).val = BitVec.ofNat 32 255 from rfl, show (255 : Fin 256).val = 255 from rfl] at h1 h2 h3
  simp only [show (8 + 23 : ℕ) = 31 from rfl, h1, h2, h3]
  simp

/-- and every field between a power of two. -/
theorem powOf_eq (n : ℕ) (h1 : 1 ≤ n) (h2 : n ≤ 254) : powOf (BitVec.ofNat 32 n) = (((2 : ℝ) ^ ((n : ℤ) - 127) : ℝ) : EReal) := by
  obtain ⟨e1, e2, e3⟩ := fields ⟨n, by omega⟩
  unfold powOf Ideal.ofBits Ideal.ieee
  simp only at e1 e2 e3
  simp only [show (8 + 23 : ℕ) = 31 from rfl, e1, e2, e3]
  rw [if_neg (by omega), if_neg (by omega)]
  rw [EReal.coe_eq_coe_iff]
  have e : (n : ℤ) - (2 ^ (8 - 1) - 1) - (23 : ℕ) = ((n : ℤ) - 127) + (-23) := by norm_num; ring
  rw [e, zpow_add₀ (by norm_num)]
  generalize (2 : ℝ) ^ ((n : ℤ) - 127) = z
  norm_num
  ring

/-- How many of the 256 numbers with zero mantissa are not above `y`. -/
def cnt (y : EReal) : BitVec 32 :=
  Finset.fold IntOp.addi 0#32 (fun k : Fin 256 => if y < powOf (BitVec.ofNat 32 k.val) then 0#32 else 1#32) Finset.univ

/-- The exponent the kernel makes of that count. -/
def eW (y : EReal) : BitVec 32 :=
  Scalar.select (IntOp.ori (BitVec.ofBool (decide (y = 0))) (IntOp.cmpi .eq (IntOp.subi (cnt y) 1#32) 255#32)) 0#32
    (IntOp.subi (IntOp.subi (cnt y) 1#32) 126#32)

theorem count : ∀ b : Fin 254, Finset.fold IntOp.addi 0#32 (fun k : Fin 256 => if b.val < k.val then 0#32 else 1#32) Finset.univ
    = BitVec.ofNat 32 (b.val + 1) := by decide +kernel

theorem words : ∀ b : Fin 254, Scalar.select (IntOp.ori 0#1 (IntOp.cmpi .eq (IntOp.subi (BitVec.ofNat 32 (b.val + 1)) 1#32) 255#32)) 0#32
      (IntOp.subi (IntOp.subi (BitVec.ofNat 32 (b.val + 1)) 1#32) 126#32) = IntOp.subi (BitVec.ofNat 32 b.val) 126#32
    ∧ IntOp.addi 127#32 (IntOp.subi (BitVec.ofNat 32 b.val) 126#32) = BitVec.ofNat 32 (b.val + 1)
    ∧ IntOp.subi 127#32 (IntOp.subi (BitVec.ofNat 32 b.val) 126#32) = BitVec.ofNat 32 (253 - b.val) := by decide +kernel

/-- A positive number in the binade of `2 ^ (b - 127)` is below the later powers only. -/
theorem lt_powOf {y : ℝ} {b : ℕ} (hb : b < 254) (hl : (2 : ℝ) ^ ((b : ℤ) - 127) ≤ y) (hu : y < (2 : ℝ) ^ ((b : ℤ) + 1 - 127))
    (k : Fin 256) : (y : EReal) < powOf (BitVec.ofNat 32 k.val) ↔ b < k.val := by
  have hk := k.isLt
  have hy : 0 < y := lt_of_lt_of_le (by positivity) hl
  rcases Nat.eq_zero_or_pos k.val with h0 | h0
  · rw [h0, powOf_zero]
    constructor
    · intro h; exact absurd (by exact_mod_cast h : y < 0) (not_lt.mpr hy.le)
    · intro h; omega
  by_cases h5 : k.val = 255
  · rw [h5, powOf_top]
    exact ⟨fun _ => by omega, fun _ => EReal.coe_lt_top y⟩
  rw [powOf_eq k.val h0 (by omega), EReal.coe_lt_coe_iff]
  constructor
  · intro h
    by_contra hc
    have : (2 : ℝ) ^ ((k.val : ℤ) - 127) ≤ (2 : ℝ) ^ ((b : ℤ) - 127) := zpow_le_zpow_right₀ (by norm_num) (by omega)
    linarith
  · intro h
    have : (2 : ℝ) ^ ((b : ℤ) + 1 - 127) ≤ (2 : ℝ) ^ ((k.val : ℤ) - 127) := zpow_le_zpow_right₀ (by norm_num) (by omega)
    linarith

theorem cnt_eq {y : ℝ} {b : ℕ} (hb : b < 254) (hl : (2 : ℝ) ^ ((b : ℤ) - 127) ≤ y) (hu : y < (2 : ℝ) ^ ((b : ℤ) + 1 - 127)) :
    cnt (y : EReal) = BitVec.ofNat 32 (b + 1) := by
  refine Eq.trans ?_ (count ⟨b, hb⟩)
  unfold cnt
  refine congrArg (fun f : Fin 256 → BitVec 32 => Finset.fold IntOp.addi 0#32 f Finset.univ) (funext fun k => ?_)
  simp only [lt_powOf hb hl hu k]

/-- The exponent word of a positive number in the binade of `2 ^ (b - 127)`. -/
theorem eW_eq {y : ℝ} {b : ℕ} (hb : b < 254) (hl : (2 : ℝ) ^ ((b : ℤ) - 127) ≤ y) (hu : y < (2 : ℝ) ^ ((b : ℤ) + 1 - 127)) :
    eW (y : EReal) = IntOp.subi (BitVec.ofNat 32 b) 126#32 := by
  have hy : (y : EReal) ≠ 0 := by
    have : 0 < y := lt_of_lt_of_le (by positivity) hl
    exact_mod_cast this.ne'
  unfold eW
  rw [cnt_eq hb hl hu, decide_eq_false hy]
  exact (words ⟨b, hb⟩).1

theorem eW_zero : eW 0 = 0#32 := by
  unfold eW
  rw [decide_eq_true rfl]
  have : ∀ x : BitVec 1, IntOp.ori (BitVec.ofBool true) x = 1#1 := by decide
  rw [this]; rfl

/-- The reference's exponent of a row whose greatest magnitude is `a`, under the factor `c`. -/
def rE (c a : EReal) : EReal := if a = 0 then 0 else Ideal.liftRound Int.floor (Ideal.log (a * c) * ((cRq : ℝ) : EReal)) + 1
where cRq : ℝ := (Real.log 2)⁻¹

/-- The factor 1 / 448 as the programs spell it. -/
def c448 : EReal := Ideal.ofBits .f32 0x3B124925#32
theorem c448_eq : c448 = (((9586981 : ℝ) * (2 : ℝ) ^ (-32 : ℤ) : ℝ) : EReal) := by
  unfold c448
  simp [Ideal.ofBits, Ideal.ieee, -EReal.coe_mul]

theorem lo_eq : Ideal.ofBits .f32 0x04600000#32 = (((448 : ℝ) * (2 : ℝ) ^ (-127 : ℤ) : ℝ) : EReal) := by
  simp [Ideal.ofBits, Ideal.ieee, -EReal.coe_mul]; norm_num
theorem hi_eq : Ideal.ofBits .f32 0x7F7F0000#32 = (((16711680 : ℝ) * (2 : ℝ) ^ (104 : ℤ) : ℝ) : EReal) := by
  simp [Ideal.ofBits, Ideal.ieee, -EReal.coe_mul]

/-- A row's greatest magnitude is zero, or at least `448 * 2 ^ -127` and in the range of bf16. -/
def Ok (a : EReal) : Prop := a = 0 ∨ (Ideal.ofBits .f32 0x04600000#32 ≤ a ∧ a ≤ Ideal.ofBits .f32 0x7F7F0000#32)

/-- A positive real lies in the binade its base-two logarithm's floor names. -/
theorem binade {y : ℝ} (hy : 0 < y) : (2 : ℝ) ^ ⌊Real.log y * (Real.log 2)⁻¹⌋ ≤ y ∧ y < (2 : ℝ) ^ (⌊Real.log y * (Real.log 2)⁻¹⌋ + 1) := by
  have h2 : 0 < Real.log 2 := Real.log_pos (by norm_num)
  have e : (2 : ℝ) ^ (Real.log y * (Real.log 2)⁻¹) = y := by
    rw [Real.rpow_def_of_pos (by norm_num), show Real.log 2 * (Real.log y * (Real.log 2)⁻¹) = Real.log y by field_simp]
    exact Real.exp_log hy
  constructor
  · rw [← Real.rpow_intCast]
    conv_rhs => rw [← e]
    exact Real.rpow_le_rpow_of_exponent_le (by norm_num) (Int.floor_le _)
  · rw [← Real.rpow_intCast]
    conv_lhs => rw [← e]
    refine Real.rpow_lt_rpow_of_exponent_lt (by norm_num) ?_
    push_cast
    exact Int.lt_floor_add_one _

theorem exp2_int (n : ℤ) : Ideal.exp2 ((n : ℝ) : EReal) = (((2 : ℝ) ^ n : ℝ) : EReal) := by
  show (((2 : ℝ) ^ ((n : ℤ) : ℝ) : ℝ) : EReal) = _
  rw [Real.rpow_intCast]

/-- THE SCALE: the two powers of two the kernel spells by their words are the reference's. -/
theorem scale_eq {a : EReal} (h : Ok a) :
    powOf (IntOp.addi 127#32 (eW (a * c448))) = Ideal.exp2 (rE c448 a)
    ∧ powOf (IntOp.subi 127#32 (eW (a * c448))) = Ideal.exp2 (0 - rE c448 a) := by
  rcases h with rfl | ⟨hl, hh⟩
  · have e : rE c448 0 = ((0 : ℤ) : ℝ) := by unfold rE; simp
    rw [zero_mul, eW_zero, e]
    have e1 : IntOp.addi 127#32 0#32 = BitVec.ofNat 32 127 := by decide
    have e2 : IntOp.subi 127#32 0#32 = BitVec.ofNat 32 127 := by decide
    have e3 : (0 : EReal) - (((0 : ℤ) : ℝ) : EReal) = (((0 : ℤ) : ℝ) : EReal) := by simp
    rw [e1, e2, e3, powOf_eq 127 (by norm_num) (by norm_num), exp2_int]
    norm_num
  · rw [lo_eq] at hl
    rw [hi_eq] at hh
    induction a with
    | bot => exact absurd hl (not_le.mpr (EReal.bot_lt_coe _))
    | top => exact absurd hh (not_le.mpr (EReal.coe_lt_top _))
    | coe a =>
      rw [EReal.coe_le_coe_iff] at hl hh
      have ha : 0 < a := lt_of_lt_of_le (by positivity) hl
      rw [c448_eq, ← EReal.coe_mul]
      generalize hy : a * ((9586981 : ℝ) * (2 : ℝ) ^ (-32 : ℤ)) = y
      have hy0 : 0 < y := by rw [← hy]; positivity
      have hyl : (2 : ℝ) ^ (-127 : ℤ) ≤ y := by
        rw [← hy]
        calc (2 : ℝ) ^ (-127 : ℤ) ≤ ((448 : ℝ) * (2 : ℝ) ^ (-127 : ℤ)) * ((9586981 : ℝ) * (2 : ℝ) ^ (-32 : ℤ)) := by norm_num
          _ ≤ _ := mul_le_mul_of_nonneg_right hl (by positivity)
      have hyh : y < (2 : ℝ) ^ (120 : ℤ) := by
        rw [← hy]
        calc a * ((9586981 : ℝ) * (2 : ℝ) ^ (-32 : ℤ)) ≤ ((16711680 : ℝ) * (2 : ℝ) ^ (104 : ℤ)) * ((9586981 : ℝ) * (2 : ℝ) ^ (-32 : ℤ)) :=
              mul_le_mul_of_nonneg_right hh (by positivity)
          _ < _ := by norm_num
      have hE : rE (((9586981 : ℝ) * (2 : ℝ) ^ (-32 : ℤ) : ℝ) : EReal) (a : EReal) = (((⌊Real.log y * (Real.log 2)⁻¹⌋ + 1 : ℤ) : ℝ) : EReal) := by
        unfold rE rE.cRq
        rw [if_neg (by exact_mod_cast ha.ne'), ← EReal.coe_mul, hy, Cert.Head.log_pos' hy0, ← EReal.coe_mul, Ideal.liftRound_coe]
        push_cast
        rfl
      rw [hE]
      obtain ⟨h1, h2⟩ := binade hy0
      generalize ⌊Real.log y * (Real.log 2)⁻¹⌋ = n at h1 h2
      have hn1 : -127 ≤ n := by
        by_contra hc
        have : (2 : ℝ) ^ (n + 1) ≤ (2 : ℝ) ^ (-127 : ℤ) := zpow_le_zpow_right₀ (by norm_num) (by omega)
        linarith
      have hn2 : n < 120 := by
        by_contra hc
        have : (2 : ℝ) ^ (120 : ℤ) ≤ (2 : ℝ) ^ n := zpow_le_zpow_right₀ (by norm_num) (by omega)
        linarith
      obtain ⟨b, hb⟩ : ∃ b : ℕ, (b : ℤ) = n + 127 := ⟨(n + 127).toNat, by omega⟩
      have hb1 : b < 247 := by omega
      obtain rfl : n = (b : ℤ) - 127 := by omega
      have hu : y < (2 : ℝ) ^ ((b : ℤ) + 1 - 127) := by rwa [show (b : ℤ) + 1 - 127 = (b : ℤ) - 127 + 1 by ring]
      rw [eW_eq (by omega) h1 hu]
      obtain ⟨-, w1, w2⟩ := words ⟨b, by omega⟩
      simp only at w1 w2
      rw [w1, w2, powOf_eq _ (by omega) (by omega), powOf_eq _ (by omega) (by omega), exp2_int]
      have en : (0 : EReal) - ((((b : ℤ) - 127 + 1 : ℤ) : ℝ) : EReal) = (((-((b : ℤ) - 127 + 1) : ℤ) : ℝ) : EReal) := by
        rw [zero_sub, ← EReal.coe_neg]; push_cast; rfl
      rw [en, exp2_int]
      have q1 : ((b + 1 : ℕ) : ℤ) - 127 = (b : ℤ) - 127 + 1 := by push_cast; ring
      have q2 : ((253 - b : ℕ) : ℤ) - 127 = -((b : ℤ) - 127 + 1) := by rw [Nat.cast_sub (by omega)]; push_cast; ring
      rw [q1, q2]
      exact ⟨rfl, rfl⟩

end Cert.Quant

end
-- ==== Proof.Quant.lean ====
/- The quantiser's blocks read at an index, and the two arrays its run leaves. -/
module

public import proofs.«01_k».proof.Proof.Consts
public import proofs.«01_k».proof.Proof.QuantMath
public import proofs.«01_k».proof.Proof.Gen.QuantiseIdeal.Frame
public import Idealize.ShloMosaic.Lib.Pointwise
public import Idealize.ShloMosaic.Lib.Pipeline.ValueKit
public import Idealize.ShloMosaic.Lib.Claim
public import Idealize.ShloMosaic.Lib.KernelVsHost

@[expose] public section

set_option maxRecDepth 16384

noncomputable section

namespace Cert.Quant

open Cert.QuantiseIdeal Cert.QuantiseIdeal.Gen Idealize.ShloMosaic Idealize.ShloMosaic.TcCoe Idealize.SL.Sem

/-- A row's greatest magnitude. -/
def amax (f : Fin 16384 → EReal) : EReal := Finset.univ.sup fun k => max (f k) (-(f k))

/-- The code of a number under the inverse scale of its row's greatest magnitude `a`. -/
def codeOf (a x : EReal) : EReal :=
  min (Ideal.ofBits .f32 0x43E00000#32) (max (Ideal.ofBits .f32 0xC3E00000#32) (x * Ideal.exp2 (0 - rE c448 a)))

/-- A fold of the maximum from minus infinity is the greatest of its values. -/
theorem fold_amax (g : Fin 16384 → EReal) (c : EReal) (hc : c = ⊥) :
    Finset.fold max c (fun k => max (g k) (-(g k))) Finset.univ = amax g := by
  subst hc
  rfl

section
variable (x : Vec Ideal S128x16384 .bf16) (r : Fin 128) (k : Fin 16384)

theorem e_apply : k0_pay3 (F := Ideal) x (ix2 r 0) = eW (amax (fun k => x (ix2 r k)) * c448) := by
  pointwise [k0_pay3, k0_pay2]
  rw [← fold_amax (fun k => x (ix2 r k)) _ Cert.Consts.negInf]
  rfl

/-- The scale the kernel writes for a row of its block, -/
theorem scale_apply (h : Ok (amax fun k => x (ix2 r k))) :
    k0_pay4 (F := Ideal) x (ix2 r 0) = Ideal.exp2 (rE c448 (amax fun k => x (ix2 r k))) := by
  pointwise [k0_pay4]
  rw [e_apply]
  exact (scale_eq h).1

/-- and the code. -/
theorem code_apply (h : Ok (amax fun k => x (ix2 r k))) :
    k0_pay1 (F := Ideal) (k0_pay5 (F := Ideal) x) (ix2 r k) = codeOf (amax fun k => x (ix2 r k)) (x (ix2 r k)) := by
  pointwise [k0_pay5, k0_pay1, k0_pay2]
  rw [e_apply]
  unfold codeOf
  rw [← (scale_eq h).2]
  rfl
end

section
variable (m : (ℓ : Loc nD τ sig) → Buf (Elt Ideal) ℓ) (c : Dev nD)

/-- Which block each window is at, at each grid point. -/
theorem idx : ∀ t : Fin cfg0.N, win0_0.index t = ![t.val, 0] ∧ win0_1.index t = ![t.val, 0] ∧ win0_2.index t = ![t.val, 0] := by
  decide +kernel

theorem tlt (t : Fin cfg0.N) : t.val < 20 := t.isLt

/-- The token a row of a grid point's block stands for. -/
def tok (t : Fin cfg0.N) (r : Fin 128) : Fin 2560 := ⟨128 * t.val + r.val, by have := tlt t; omega⟩

/-- The tokens in a row. -/
def flat (a0 : Vec Ideal S2x1280x16384 .bf16) : Vec Ideal S2560x16384 .bf16 := shapeCast S2560x16384 a0 shapeCasts_S2x1280x16384_S2560x16384

theorem flat_apply (a0 : Vec Ideal S2x1280x16384 .bf16) (b : Fin 2) (q : Fin 1280) (k : Fin 16384) (h : b.val * 1280 + q.val < 2560) :
    flat a0 (ix2 (⟨b.val * 1280 + q.val, h⟩ : Fin 2560) k) = a0 (ix3 b q k) := by
  unfold flat
  refine shapeCast_apply _ _ _ _ ?_
  rw [Shape.rowMajor_val_three, Shape.rowMajor_val_two]
  rfl

/-- The greatest magnitude of a token. -/
def top (a0 : Vec Ideal S2560x16384 .bf16) (n : Fin 2560) : EReal := amax fun k => a0 (ix2 n k)

theorem V0_eq : V m c main_v0 = flat (m ((c.tc : Thread nD τ).loc main_arg0)) := by
  entry_read
  rfl

theorem iblk0 (t : Fin cfg0.N) (r : Fin 128) (k : Fin 16384) :
    (iblk m c 0 t : Vec Ideal S128x16384 .bf16) (ix2 r k) = V m c main_v0 (ix2 (tok t r) k) := by
  have := tlt t
  unfold tok
  blk_ext [iblk, (idx t).1]

/-- The array of codes the region leaves. -/
def outC (a0 : Vec Ideal S2560x16384 .bf16) : Vec Ideal S2560x16384 .fp8e4m3 := fun i => codeOf (top a0 (i 0)) (a0 i)
/-- The array of scales. -/
def outS (a0 : Vec Ideal S2560x16384 .bf16) : Vec Ideal S2560x1 .f32 := fun i => Ideal.exp2 (rE c448 (top a0 (i 0)))

variable (a0 : Vec Ideal S2560x16384 .bf16) (hok : ∀ n, Ok (top a0 n)) (x : Vec Ideal S128x16384 .bf16) (t : Fin cfg0.N)
  (hx : ∀ r k, x (ix2 r k) = a0 (ix2 (tok t r) k))
include hok hx

/-- What a grid point writes at an index of its block is the array at the index the block puts it at. -/
theorem putC (y : S128x16384.Idx) (z : S2560x16384.Idx) (h0 : (z 0).val = 128 * t.val + (y 0).val) (h1 : (z 1).val = (y 1).val) :
    k0_pay1 (F := Ideal) (k0_pay5 (F := Ideal) x) y = outC a0 z := by
  obtain ⟨r, k, rfl⟩ : ∃ (r : Fin 128) (k : Fin 16384), y = ix2 r k := ⟨y 0, y 1, ValueIdx.eq_ix2 y⟩
  obtain ⟨n, k', rfl⟩ : ∃ (n : Fin 2560) (k : Fin 16384), z = ix2 n k := ⟨z 0, z 1, ValueIdx.eq_ix2 z⟩
  obtain rfl : n = tok t r := Fin.ext h0
  obtain rfl : k' = k := Fin.ext h1
  have e : (fun k => x (ix2 r k)) = fun k => a0 (ix2 (tok t r) k) := funext fun k => hx r k
  rw [code_apply x r k' (by rw [e]; exact hok _), e, hx]
  rfl

theorem putS (y : S128x1.Idx) (z : S2560x1.Idx) (h0 : (z 0).val = 128 * t.val + (y 0).val) :
    k0_pay4 (F := Ideal) x y = outS a0 z := by
  obtain ⟨r, k, rfl⟩ : ∃ (r : Fin 128) (k : Fin 1), y = ix2 r k := ⟨y 0, y 1, ValueIdx.eq_ix2 y⟩
  obtain rfl : k = 0 := Subsingleton.elim _ _
  obtain ⟨n, k', rfl⟩ : ∃ (n : Fin 2560) (k : Fin 1), z = ix2 n k := ⟨z 0, z 1, ValueIdx.eq_ix2 z⟩
  obtain rfl : n = tok t r := Fin.ext h0
  have e : (fun k => x (ix2 r k)) = fun k => a0 (ix2 (tok t r) k) := funext fun k => hx r k
  rw [scale_apply x r (by rw [e]; exact hok _), e]
  rfl
end

end Cert.Quant

end
-- ==== Proof.QuantPre.lean ====
/- What the quantiser's precondition says of a token's greatest magnitude. -/
module

public import proofs.«01_k».proof.Defs
public import proofs.«01_k».proof.Proof.Consts
public import proofs.«01_k».proof.Proof.Quant
public import proofs.«01_k».proof.Proof.Gen.Pre_rows_in_range
public import Idealize.ShloMosaic.PureOps.Ideal.Laws
public import Idealize.ShloMosaic.Lib.Pointwise

@[expose] public section

set_option maxRecDepth 16384

noncomputable section

namespace Cert.QuantPre

open Cert.Pre_rows_in_range Cert.Pre_rows_in_range.Facts Idealize.ShloMosaic Idealize.ShloMosaic.TcCoe Idealize.SL.Sem
open Cert.Quant (amax Ok)

variable [Facts] (x : FVec Ideal S2x1280x16384 .bf16) (A : FVec Ideal S2x1280 .f32) (b : Fin 2) (q : Fin 1280)

theorem redR : S2x1280x16384.Reduces [2] S2x1280 := by decide

/-- The number the maximum's fold reads at a coordinate. -/
theorem lift_apply (k : Fin 16384) : (redR.lift (ix2 b q) k : S2x1280x16384.Idx) = ix3 b q k := by
  funext a
  refine Fin.ext ?_
  match a with
  | ⟨0, _⟩ => rfl
  | ⟨1, _⟩ => rfl
  | ⟨2, _⟩ => rfl

/-- A fold of the maximum from minus infinity is the greatest of its values. -/
theorem fold_sup {n : ℕ} (g g' : Fin n → EReal) (c : EReal) (hc : c = ⊥) (hg : ∀ k, g k = g' k) :
    Finset.fold (FloatOps.maximumf (F := Ideal) (φ := .f32)) c g Finset.univ = Finset.univ.sup g' := by
  obtain rfl : g = g' := funext hg
  subst hc
  rfl

theorem abs_apply (i : S2x1280x16384.Idx) : Host.absf (extf (F := Ideal) .f32 x bitsLt_bf16_f32) i = max (x i) (-(x i)) := rfl

theorem max_apply : Host.reduce FloatOps.maximumf (Host.absf (extf (F := Ideal) .f32 x bitsLt_bf16_f32)) (constant S_ .f32 0xFF800000#32) reducesTo_S2x1280x16384_S2x1280_d2 h_S_ (ix2 b q)
    = amax fun k => x (ix3 b q k) :=
  (Host.reduce_eq_fold_single FloatOps.maximumf _ _ _ redR _ _).trans
    (fold_sup (n := 16384) _ _ _ Cert.Consts.negInf fun k => (abs_apply x _).trans (congrArg (fun i => max (x i) (-(x i))) (lift_apply b q k)))

/-- The predicate, of the greatest magnitudes. -/
def test : IVec S2x1280 1 :=
  ori (cmpf .oeq A (broadcastInDim S2x1280 ![] bcast_S_S2x1280 (constant S_ .f32 0x00000000#32)))
    (andi (cmpf .oge A (broadcastInDim S2x1280 ![] bcast_S_S2x1280 (constant S_ .f32 0x04600000#32)))
      (cmpf .ole A (broadcastInDim S2x1280 ![] bcast_S_S2x1280 (constant S_ .f32 0x7F7F0000#32))))

theorem bits (p q r : Prop) [Decidable p] [Decidable q] [Decidable r]
    (h : IntOp.ori (BitVec.ofBool (decide p)) (IntOp.andi (BitVec.ofBool (decide q)) (BitVec.ofBool (decide r))) = 1#1) : p ∨ (q ∧ r) := by
  by_cases hp : p
  · exact Or.inl hp
  · right
    rw [decide_eq_false hp] at h
    by_cases hq : q
    · by_cases hr : r
      · exact ⟨hq, hr⟩
      · rw [decide_eq_true hq, decide_eq_false hr] at h; exact absurd h (by decide)
    · rw [decide_eq_false hq] at h
      exact absurd h (by cases decide r <;> decide)

theorem test_apply (h : test A (ix2 b q) = 1#1) : Ok (A (ix2 b q)) := by
  unfold test at h
  pointwise [] at h
  exact bits _ _ _ h

theorem fn_eq : fn (F := Ideal) x = test (Host.reduce FloatOps.maximumf (Host.absf (extf (F := Ideal) .f32 x bitsLt_bf16_f32)) (constant S_ .f32 0xFF800000#32) reducesTo_S2x1280x16384_S2x1280_d2 h_S_) := by
  unfold fn test
  exact rfl

theorem ok_of_fn (h : fn (F := Ideal) x (ix2 b q) = 1#1) : Ok (amax fun k => x (ix3 b q k)) := by
  rw [fn_eq] at h
  have := test_apply _ b q h
  rwa [max_apply] at this

end Cert.QuantPre

end
-- ==== Proof.QuantRef.lean ====
/- The quantiser's reference read at an index. -/
module

public import proofs.«01_k».proof.Proof.Consts
public import proofs.«01_k».proof.Proof.Quant
public import proofs.«01_k».proof.Proof.Gen.QuantiseReferenceIdeal.Value
public import Idealize.ShloMosaic.PureOps.Ideal.Laws
public import Idealize.ShloMosaic.PureOps.IdealRules
public import Idealize.ShloMosaic.Lib.Pointwise
public import Idealize.ShloMosaic.Lib.Pipeline.Value

@[expose] public section

set_option maxRecDepth 16384

noncomputable section

namespace Cert.QuantRef

open Cert.QuantiseReferenceIdeal Cert.QuantiseReferenceIdeal.Gen Idealize.ShloMosaic Idealize.ShloMosaic.TcCoe Idealize.SL.Sem
open Cert.Quant (amax rE c448 codeOf)

theorem log2e_eq : Named.named (F := Ideal) κ "log2e" (φ := .f32) 0x3FB8AA3B#32 = ((rE.cRq : ℝ) : EReal) :=
  IdealRules.named_const.ideal_named_scalar _ _ _ _ rfl

theorem one_eq : Ideal.ofBits .f32 0x3F800000#32 = 1 := by
  simp [Ideal.ofBits, Ideal.ieee, -EReal.coe_mul]; norm_num

section
variable (x : Vec Ideal S2x1280x16384 .bf16) (A : FVec Ideal S2x1280 .f32) (b : Fin 2) (q : Fin 1280) (k : Fin 16384)

/-- The number the maximum's fold reads at a coordinate. -/
theorem lift_apply (h : S2x1280x16384.Reduces [2] S2x1280) (k : Fin 16384) : (h.lift (ix2 b q) k : S2x1280x16384.Idx) = ix3 b q k := by
  funext a
  refine Fin.ext ?_
  match a with
  | ⟨0, _⟩ => rfl
  | ⟨1, _⟩ => rfl
  | ⟨2, _⟩ => rfl

/-- A fold of the maximum from minus infinity is the greatest of its values. -/
theorem fold_sup {n : ℕ} (g g' : Fin n → EReal) (c : EReal) (hc : c = ⊥) (hg : ∀ k, g k = g' k) :
    Finset.fold max c g Finset.univ = Finset.univ.sup g' := by
  obtain rfl : g = g' := funext hg
  subst hc
  rfl

theorem abs_apply (i : S2x1280x16384.Idx) : absf (extf (F := Ideal) .f32 x bitsLt_bf16_f32) i = max (x i) (-(x i)) := rfl

theorem max_apply : multiReduction (F := Ideal) .maximumf [2] S2x1280 (absf (extf .f32 x bitsLt_bf16_f32)) 0xFF800000#32 reduces_S2x1280x16384_S2x1280 (.inl rfl) rfl (ix2 b q)
    = amax fun k => x (ix3 b q k) :=
  (Ideal.multiReduction_maximumf_single _ _ _ _ _ _).trans
    (fold_sup (n := 16384) _ _ _ Cert.Consts.negInf fun k => (abs_apply x _).trans (congrArg (fun i => max (x i) (-(x i))) (lift_apply b q _ k)))

/-- The exponent, of the greatest magnitudes. -/
theorem exp_apply : select (cmpf .oeq A (broadcast S2x1280 (Scalar.ofBits .f32 0x00000000#32))) (broadcast S2x1280 (Scalar.ofBits .f32 0x00000000#32))
      (addf (floor (mulf (log (mulf A (broadcast S2x1280 (Scalar.ofBits .f32 0x3B124925#32)))) (broadcast S2x1280 (Named.named κ "log2e" 0x3FB8AA3B#32)))) (broadcast S2x1280 (Scalar.ofBits .f32 0x3F800000#32))) (ix2 b q)
    = rE c448 (A (ix2 b q)) := by
  pointwise [log2e_eq]
  rfl

theorem pay2_apply : k0_pay2 (F := Ideal) x (ix2 b q) = rE c448 (amax fun k => x (ix3 b q k)) := by
  refine Eq.trans ?_ ((exp_apply _ b q).trans (congrArg (rE c448) (max_apply x b q)))
  unfold k0_pay2 k0_pay1
  exact rfl

theorem exp2_apply : exp2 (F := Ideal) (φ := .f32) A (ix2 b q) = Ideal.exp2 (A (ix2 b q)) := rfl

theorem pay3_apply : k0_pay3 (F := Ideal) x (ix2 b q) = Ideal.exp2 (rE c448 (amax fun k => x (ix3 b q k))) := by
  unfold k0_pay3
  exact (exp2_apply (k0_pay2 x) b q).trans (congrArg Ideal.exp2 (pay2_apply x b q))

/-- A number of every token, spread over the token. -/
theorem spread_apply : broadcastTo S2x1280x16384 (shapeCast S2x1280x1 A shapeCasts_S2x1280_S2x1280x1) broadcasts_S2x1280x1_S2x1280x16384 (ix3 b q k) = A (ix2 b q) := by
  refine (broadcastTo_apply _ _ _ (ix3 b q (0 : Fin 1)) fun a => ?_).trans (shapeCast_apply _ _ _ (ix2 b q) ?_)
  · match a with
    | ⟨0, _⟩ => rfl
    | ⟨1, _⟩ => rfl
    | ⟨2, _⟩ => rfl
  · rw [Shape.rowMajor_val_three, Shape.rowMajor_val_two]
    show b.val * 1280 + q.val = (b.val * 1280 + q.val) * 1 + 0
    omega

theorem sub_apply : exp2 (F := Ideal) (φ := .f32) (subf (broadcast S2x1280 (Scalar.ofBits .f32 0x00000000#32)) A) (ix2 b q) = Ideal.exp2 (0 - A (ix2 b q)) := by
  pointwise []
  rfl

theorem clip_apply (X Y : FVec Ideal S2x1280x16384 .f32) (i : S2x1280x16384.Idx) :
    truncf (F := Ideal) .fp8e4m3 (minimumf (broadcast S2x1280x16384 (Scalar.ofBits .f32 0x43E00000#32)) (maximumf (broadcast S2x1280x16384 (Scalar.ofBits .f32 0xC3E00000#32)) (mulf X Y))) bitsLt_fp8e4m3_f32 i
      = min (Ideal.ofBits .f32 0x43E00000#32) (max (Ideal.ofBits .f32 0xC3E00000#32) (X i * Y i)) := rfl

theorem pay4_apply : k0_pay4 (F := Ideal) x (ix3 b q k) = codeOf (amax fun k => x (ix3 b q k)) (x (ix3 b q k)) := by
  refine (clip_apply _ _ _).trans ?_
  rw [spread_apply, sub_apply, pay2_apply]
  rfl
end

end Cert.QuantRef

end
-- ==== Proof.QuantClaim.lean ====
/- The quantiser's claim: its run and its reference's run end with equal codes and scales. -/
module

public import proofs.«01_k».proof.Proof.QuantPre
public import proofs.«01_k».proof.Proof.QuantRef

@[expose] public section

set_option maxRecDepth 16384

noncomputable section

namespace Cert.Quant

open Cert.QuantiseIdeal Cert.QuantiseIdeal.Gen Idealize.ShloMosaic Idealize.ShloMosaic.TcCoe Idealize.SL.Sem

section
variable (m : (ℓ : Loc nD τ sig) → Buf (Elt Ideal) ℓ) (c : Dev nD)

/-- The region leaves the codes -/
theorem arr1 (hok : ∀ n, Ok (top (V m c main_v0) n)) : (dats m 0 c).arrAt 1 cfg0.N = outC (V m c main_v0) := by
  refine (dats m 0 c).arrAt_eq_of_covers 1 _ (by decide +kernel) fun t hf y => ?_
  have e := (idx t).2.1
  blk_simp
  rw [after0_1]
  frame_out
  refine putC (V m c main_v0) hok _ t (fun r k => iblk0 m c t r k) y _ ?_ ?_
  · blk_simp [e]
    simp
    omega
  · blk_simp [e]

/-- and the scales. -/
theorem arr2 (hok : ∀ n, Ok (top (V m c main_v0) n)) : (dats m 0 c).arrAt 2 cfg0.N = outS (V m c main_v0) := by
  refine (dats m 0 c).arrAt_eq_of_covers 2 _ (by decide +kernel) fun t hf y => ?_
  have e := (idx t).2.2
  blk_simp
  rw [after0_2]
  frame_out
  refine putS (V m c main_v0) hok _ t (fun r k => iblk0 m c t r k) y _ ?_
  blk_simp [e]
  simp
  omega

/-- The first result is the codes, reshaped, -/
theorem tail2 : Pipeline.afterTail₀ cfgs (dats m) 0 (V0 m) [hostOps1] c main_v2
    = shapeCast S2x1280x16384 ((dats m 0 c).arrAt 1 cfg0.N : Vec Ideal S2560x16384 .fp8e4m3) shapeCasts_S2560x16384_S2x1280x16384 := by
  unfold Pipeline.afterTail₀
  have e := Pipeline.withArrays_arr (cfgs 0).spec (by decide) c (V0 m c) (fun w => (dats m 0 c).arrAt w (cfgs 0).N) 1
  generalize Pipeline.withArrays (cfgs 0).spec c (V0 m c) (fun w => (dats m 0 c).arrAt w (cfgs 0).N) = W at e ⊢
  show StableHlo.after hostOps1 W (Proc.devRef .tc main_v2) = _
  after_results
  exact congrArg (fun X : Vec Ideal S2560x16384 .fp8e4m3 => shapeCast S2x1280x16384 X shapeCasts_S2560x16384_S2x1280x16384) e

/-- and the second the scales. -/
theorem tail3 : Pipeline.afterTail₀ cfgs (dats m) 0 (V0 m) [hostOps1] c main_v3
    = shapeCast S2x1280 ((dats m 0 c).arrAt 2 cfg0.N : Vec Ideal S2560x1 .f32) shapeCasts_S2560x1_S2x1280 := by
  unfold Pipeline.afterTail₀
  have e := Pipeline.withArrays_arr (cfgs 0).spec (by decide) c (V0 m c) (fun w => (dats m 0 c).arrAt w (cfgs 0).N) 2
  generalize Pipeline.withArrays (cfgs 0).spec c (V0 m c) (fun w => (dats m 0 c).arrAt w (cfgs 0).N) = W at e ⊢
  show StableHlo.after hostOps1 W (Proc.devRef .tc main_v3) = _
  after_results
  exact congrArg (fun X : Vec Ideal S2560x1 .f32 => shapeCast S2x1280 X shapeCasts_S2560x1_S2x1280) e
end

section
variable (x : Vec Ideal S2x1280x16384 .bf16)

/-- The codes of every token, of the program's argument. -/
def resC : Vec Ideal S2x1280x16384 .fp8e4m3 := fun i => codeOf (amax fun k => x (ix3 (i 0) (i 1) k)) (x i)
/-- The scale of every token. -/
def resS : Vec Ideal S2x1280 .f32 := fun i => Ideal.exp2 (rE c448 (amax fun k => x (ix3 (i 0) (i 1) k)))

theorem top_flat (b : Fin 2) (q : Fin 1280) (h : b.val * 1280 + q.val < 2560) :
    top (flat x) (⟨b.val * 1280 + q.val, h⟩ : Fin 2560) = amax fun k => x (ix3 b q k) :=
  congrArg amax (funext fun k => flat_apply x b q k h)

/-- The arrays the region leaves, read through the reshapes after it. -/
theorem res2 : shapeCast S2x1280x16384 (outC (flat x)) shapeCasts_S2560x16384_S2x1280x16384 = resC x := by
  funext i
  obtain ⟨b, q, k, rfl⟩ : ∃ (b : Fin 2) (q : Fin 1280) (k : Fin 16384), i = ix3 b q k := ⟨i 0, i 1, i 2, ValueIdx.eq_ix3 i⟩
  have h : b.val * 1280 + q.val < 2560 := by omega
  refine (shapeCast_apply _ _ _ (ix2 (⟨b.val * 1280 + q.val, h⟩ : Fin 2560) k) ?_).trans ?_
  · rw [Shape.rowMajor_val_three, Shape.rowMajor_val_two]
    rfl
  · show codeOf (top (flat x) ⟨b.val * 1280 + q.val, h⟩) (flat x (ix2 ⟨b.val * 1280 + q.val, h⟩ k)) = codeOf (amax fun k => x (ix3 b q k)) (x (ix3 b q k))
    rw [top_flat, flat_apply]

theorem res3 : shapeCast S2x1280 (outS (flat x)) shapeCasts_S2560x1_S2x1280 = resS x := by
  funext i
  obtain ⟨b, q, rfl⟩ : ∃ (b : Fin 2) (q : Fin 1280), i = ix2 b q := ⟨i 0, i 1, ValueIdx.eq_ix2 i⟩
  have h : b.val * 1280 + q.val < 2560 := by omega
  refine (shapeCast_apply _ _ _ (ix2 (⟨b.val * 1280 + q.val, h⟩ : Fin 2560) (0 : Fin 1)) ?_).trans ?_
  · rw [Shape.rowMajor_val_two, Shape.rowMajor_val_two]
    show (b.val * 1280 + q.val) * 1 + 0 = b.val * 1280 + q.val
    omega
  · show Ideal.exp2 (rE c448 (top (flat x) ⟨b.val * 1280 + q.val, h⟩)) = Ideal.exp2 (rE c448 (amax fun k => x (ix3 b q k)))
    rw [top_flat]
end

/-- Every token's greatest magnitude is in range, token by token of the row of tokens. -/
theorem ok_all (m : (ℓ : Loc nD τ sig) → Buf (Elt Ideal) ℓ) (hpre : Pre_QuantiseIdeal_rows_in_range m) (c : Dev nD) (n : Fin 2560) :
    Ok (top (V m c main_v0) n) := by
  have hb : n.val / 1280 < 2 := by omega
  have hq : n.val % 1280 < 1280 := by omega
  have h : n.val / 1280 * 1280 + n.val % 1280 < 2560 := by omega
  have e : n = ⟨n.val / 1280 * 1280 + n.val % 1280, h⟩ := Fin.ext (by show n.val = n.val / 1280 * 1280 + n.val % 1280; omega)
  have := Cert.QuantPre.ok_of_fn (m ((c.tc : Thread nD τ).loc main_arg0)) ⟨n.val / 1280, hb⟩ ⟨n.val % 1280, hq⟩ (congrFun (hpre c) _)
  rw [← top_flat _ ⟨n.val / 1280, hb⟩ ⟨n.val % 1280, hq⟩ h] at this
  rw [V0_eq, e]
  exact this

/-- THE QUANTISER'S RUN: its results are the codes and the scale of every token. -/
theorem quant_run (m : (ℓ : Loc nD τ sig) → Buf (Elt Ideal) ℓ) (hpre : Pre_QuantiseIdeal_rows_in_range m) (g : Dev nD → PrngReg) :
    θ_run (defs (F := Ideal)) (onTc (τ := τ) (main (F := Ideal))) ⟨m, fun _ => 0, g⟩ (fun r => ∀ c : Dev nD,
      r.2.mem ((c.tc : Thread nD τ).loc main_v2) = resC (m ((c.tc : Thread nD τ).loc main_arg0))
      ∧ r.2.mem ((c.tc : Thread nD τ).loc main_v3) = resS (m ((c.tc : Thread nD τ).loc main_arg0))
      ∧ r.2.mem ((c.tc : Thread nD τ).loc main_arg0) = m ((c.tc : Thread nD τ).loc main_arg0)) := by
  refine θ_run_mono (θ_run_and (Gen.run_main m g) (Gen.unchanged m g)) fun r hr c => ?_
  obtain ⟨h, hu⟩ := hr
  have hok := ok_all m hpre c
  refine ⟨((h c).2 main_v2 (by decide)).trans ?_, ((h c).2 main_v3 (by decide)).trans ?_, hu c⟩
  · rw [tail2, arr1 m c hok, V0_eq]; exact res2 _
  · rw [tail3, arr2 m c hok, V0_eq]; exact res3 _

/-- The reference's two results are the same arrays of its argument. -/
theorem ref1 (x : Vec Ideal S2x1280x16384 .bf16) : Cert.QuantiseReferenceIdeal.Value.G1 (F := Ideal) x = resC x := by
  funext i
  obtain ⟨b, q, k, rfl⟩ : ∃ (b : Fin 2) (q : Fin 1280) (k : Fin 16384), i = ix3 b q k := ⟨i 0, i 1, i 2, ValueIdx.eq_ix3 i⟩
  exact Cert.QuantRef.pay4_apply x b q k
theorem ref2 (x : Vec Ideal S2x1280x16384 .bf16) : Cert.QuantiseReferenceIdeal.Value.G2 (F := Ideal) x = resS x := by
  funext i
  obtain ⟨b, q, rfl⟩ : ∃ (b : Fin 2) (q : Fin 1280), i = ix2 b q := ⟨i 0, i 1, ValueIdx.eq_ix2 i⟩
  exact Cert.QuantRef.pay3_apply x b q

/-- THE QUANTISER'S CLAIM: over the extended reals the quantiser and its reference end with equal codes and scales. -/
theorem algebraic_quant : Cert.algebraic_QuantiseIdeal_QuantiseReferenceIdeal_pre_rows_in_range := by
  intro m g m' g' hpre hagree
  refine ⟨_, _, quant_run m hpre g, ?_⟩
  refine θ_run_mono (Cert.QuantiseReferenceIdeal.Value.run m' g') fun r h c => ?_
  obtain ⟨h0, h1, hu⟩ := h c
  have e := hagree c
  refine ⟨h0.trans ((ref1 _).trans ?_), h1.trans ((ref2 _).trans ?_), hu⟩
  · exact congrArg resC e
  · exact congrArg resS e

end Cert.Quant

end
-- ==== Proof.lean ====
/- Everything the statement claims of the head and of the quantiser: that every program runs to its end with its arguments
   unchanged, that the idealizations are sanctioned, and that the results of the two are their references'. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Quantise
public import proofs.«01_k».proof.Proof.Gen.Quantise.Skeleton
public import proofs.«01_k».proof.Proof.Gen.Quantise.Launch
public import proofs.«01_k».proof.Proof.Gen.Quantise.Points
public import proofs.«01_k».proof.Proof.Gen.Quantise.Frame
public import proofs.«01_k».proof.Proof.Gen.QuantiseIdeal
public import proofs.«01_k».proof.Proof.Gen.QuantiseIdeal.Skeleton
public import proofs.«01_k».proof.Proof.Gen.QuantiseIdeal.Launch
public import proofs.«01_k».proof.Proof.Gen.QuantiseIdeal.Points
public import proofs.«01_k».proof.Proof.Gen.QuantiseIdeal.Frame
public import proofs.«01_k».proof.Proof.Gen.QuantiseReferenceIdeal
public import proofs.«01_k».proof.Proof.Gen.QuantiseReferenceIdeal.Skeleton
public import proofs.«01_k».proof.Proof.Gen.QuantiseReferenceIdeal.Launch
public import proofs.«01_k».proof.Proof.Gen.QuantiseReferenceIdeal.Points
public import proofs.«01_k».proof.Proof.Gen.QuantiseReferenceIdeal.Frame
public import proofs.«01_k».proof.Proof.Gen.QuantiseReferenceIdeal.Value
public import proofs.«01_k».proof.Proof.Gen.QuantiseReference
public import proofs.«01_k».proof.Proof.Gen.QuantiseReference.Skeleton
public import proofs.«01_k».proof.Proof.Gen.QuantiseReference.Launch
public import proofs.«01_k».proof.Proof.Gen.QuantiseReference.Points
public import proofs.«01_k».proof.Proof.Gen.QuantiseReference.Frame
public import proofs.«01_k».proof.Proof.Gen.Pre_targets_in_range
public import proofs.«01_k».proof.Proof.Gen.Pre_rows_in_range
public import proofs.«01_k».proof.Proof.HeadClaim
public import proofs.«01_k».proof.Proof.QuantClaim
public import Idealize.ShloMosaic.Adequacy
public import Idealize.ShloMosaic.Init

@[expose] public section

noncomputable section

namespace Cert.Proof

open Idealize.ShloMosaic Idealize.SL.Sem Cert.Kernel

/-- The three constants the idealization names are the real numbers the kernel computed them from. -/
theorem preserves_head : Cert.preserves_Kernel_KernelIdeal :=
  ⟨IdealRules.named_const.statement _ _ _ _ _ rfl, IdealRules.named_const.statement _ _ _ _ _ rfl,
    IdealRules.named_const.statement _ _ _ _ _ rfl⟩

/-- The constant the quantiser's reference names is the real number it was computed from. -/
theorem preserves_quantise_reference : Cert.preserves_QuantiseReference_QuantiseReferenceIdeal :=
  IdealRules.named_const.statement _ _ _ _ _ rfl

/-- Every program runs to its end with its arguments unchanged, the idealizations are the programs' own, and the head's and the
    quantiser's results are their references'. -/
theorem claim : Cert.Claim :=
  ⟨Cert.Kernel.Gen.facts, Cert.KernelIdeal.Gen.facts, Cert.ReferenceIdeal.Gen.facts, Cert.Quantise.Gen.facts,
    Cert.QuantiseIdeal.Gen.facts, Cert.QuantiseReferenceIdeal.Gen.facts, Cert.QuantiseReference.Gen.facts, Cert.Pre_targets_in_range.Gen.facts, Cert.Pre_rows_in_range.Gen.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ, fun m ρ _ => Cert.Quantise.Gen.frame m ρ,
    fun m ρ _ => Cert.QuantiseIdeal.Gen.frame m ρ, fun m ρ _ => Cert.QuantiseIdeal.Gen.frame m ρ,
    fun m ρ _ => Cert.QuantiseReferenceIdeal.Gen.frame m ρ, fun m ρ _ => Cert.QuantiseReferenceIdeal.Gen.frame m ρ,
    fun m ρ _ => Cert.QuantiseReference.Gen.frame m ρ,
    preserves_head, Cert.Head.algebraic_head, trivial, preserves_quantise_reference, Cert.Quant.algebraic_quant⟩

end Cert.Proof

end
